-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "fifth" .f32 0x3E4CCCCD#32 ((5⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_v344) = v1 c
          ∧ r.2.mem ((c.tc : Thread Cert.ReferenceIdeal.nD Cert.ReferenceIdeal.τ).loc Cert.ReferenceIdeal.main_v345) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x64 : Shape := ⟨2, ![2048, 64]⟩
abbrev S2048 : Shape := ⟨1, ![2048]⟩
abbrev S_ : Shape := ⟨0, ![]⟩

class Facts : Prop where
  bcast_S_S2048x64 : S_.BroadcastsInDim S2048x64 (![] : Fin 0 → Fin S2048x64.rank)

variable [Facts]

def fn {F : FTy → Type} [FloatOps F] (main_arg0 : FVec F S2048x64 .f32) (main_arg1 : FVec F S2048x64 .f32) (main_arg2 : FVec F S2048x64 .f32) (main_arg3 : IVec S2048 32) : IVec S2048x64 1 × IVec S2048x64 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_v3 : FVec F S2048x64 .f32 := Host.absf main_arg1
  let main_cst_0 : FVec F S_ .f32 := constant S_ .f32 0x7F800000#32
  let main_v4 : FVec F S2048x64 .f32 := broadcastInDim S2048x64 ![] bcast_S_S2048x64 main_cst_0
  let main_v5 : IVec S2048x64 1 := cmpf .olt main_v3 main_v4
  (main_v2, main_v5)
-- ==== Kernel.lean ====
abbrev S2048x64 : Shape := ⟨2, ![2048, 64]⟩
abbrev S2048 : Shape := ⟨1, ![2048]⟩
abbrev S2048x1 : Shape := ⟨2, ![2048, 1]⟩
abbrev S1x2048 : Shape := ⟨2, ![1, 2048]⟩
abbrev S1x1 : Shape := ⟨2, ![1, 1]⟩
abbrev S2048x2048 : Shape := ⟨2, ![2048, 2048]⟩
abbrev S512x64 : Shape := ⟨2, ![512, 64]⟩
abbrev S512 : Shape := ⟨1, ![512]⟩
abbrev S512x1 : Shape := ⟨2, ![512, 1]⟩
abbrev S64x2048 : Shape := ⟨2, ![64, 2048]⟩
abbrev S512x2048 : Shape := ⟨2, ![512, 2048]⟩
abbrev S2048x512 : Shape := ⟨2, ![2048, 512]⟩
abbrev S256x64 : Shape := ⟨2, ![256, 64]⟩
abbrev S256 : Shape := ⟨1, ![256]⟩
abbrev S256x1 : Shape := ⟨2, ![256, 1]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S1x256x1 : Shape := ⟨3, ![1, 256, 1]⟩
abbrev S_ : Shape := ⟨0, ![]⟩

abbrev nBuf : Space → Nat
  | .hbm => 22
  | .vmem => 13
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S2048, .i32⟩
  | .hbm, ⟨4, _⟩ => ⟨S2048x1, .i32⟩
  | .hbm, ⟨5, _⟩ => ⟨S1x2048, .i32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S2048x64, .f32⟩
  | .local _ .vmem, ⟨1, _⟩ => ⟨S2048x1, .i32⟩
  | .local _ .vmem, ⟨2, _⟩ => ⟨S1x2048, .i32⟩
  | .local _ .vmem, ⟨3, _⟩ => ⟨S2048x64, .f32⟩
  | .local _ .vmem, ⟨4, _⟩ => ⟨S2048x64, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S2048x2048, .bf16⟩
  | .local _ .vmem, ⟨9, _⟩ => ⟨S2048x2048, .bf16⟩
  | .local _ .vmem, ⟨10, _⟩ => ⟨S2048x2048, .bf16⟩
  | .local _ .vmem, ⟨11, _⟩ => ⟨S2048x2048, .bf16⟩
  | .local _ .vmem, ⟨12, _⟩ => ⟨S2048x2048, .bf16⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_cst : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v21 : BitVec 32 := Scalar.muli arg0 c512_i32
  let v22 : Index := Scalar.indexCast v21
  let c0 : Index := 0#32
  ![v22.toNat, 0]
def k0_off2 (i : grid0.Coords) : Fin 2 → Nat :=
  let arg0 : BitVec 32 := BitVec.ofNat 32 (i 0).val
  let c512_i32 : BitVec 32 := 512#32
  let v21 : BitVec 32 := Scalar.muli arg0 c512_i32
  let v72 : Index := Scalar.indexCast v21
  let c0_21 : Index := 0#32
  ![v72.toNat, 0]
def k0_off3 (i : grid0.Coords) : Fin 2 → Nat :=
  let arg0 : BitVec 32 := BitVec.ofNat 32 (i 0).val
  let c512_i32 : BitVec 32 := 512#32
  let v21 : BitVec 32 := Scalar.muli arg0 c512_i32
  let v210 : Index := Scalar.indexCast v21
  let c0_66 : Index := 0#32
  ![v210.toNat, 0]
def k0_off4 (i : grid0.Coords) : Fin 2 → Nat :=
  let c0_67 : Index := 0#32
  let arg0 : BitVec 32 := BitVec.ofNat 32 (i 0).val
  let c512_i32 : BitVec 32 := 512#32
  let v21 : BitVec 32 := Scalar.muli arg0 c512_i32
  let v216 : Index := Scalar.indexCast v21
  ![0, v216.toNat]
def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let c8_i32 : BitVec 32 := 8#32
  let v4 : BitVec 1 := Scalar.cmpi .slt arg0 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off5 (i : grid0.Coords) : Fin 2 → Nat :=
  let arg0 : BitVec 32 := BitVec.ofNat 32 (i 0).val
  let c4_i32_8 : BitVec 32 := 4#32
  let v21 : BitVec 32 := Scalar.subi arg0 c4_i32_8
  let c512_i32 : BitVec 32 := 512#32
  let v22 : BitVec 32 := Scalar.muli v21 c512_i32
  let v23 : Index := Scalar.indexCast v22
  let c0 : Index := 0#32
  ![v23.toNat, 0]
def k0_cond3 (i : grid0.Coords) : BitVec 1 :=
  let arg0 : BitVec 32 := BitVec.ofNat 32 (i 0).val
  let c8_i32_2 : BitVec 32 := 8#32
  let v8 : BitVec 1 := Scalar.cmpi .sge arg0 c8_i32_2
  let c12_i32 : BitVec 32 := 12#32
  let v9 : BitVec 1 := Scalar.cmpi .slt arg0 c12_i32
  let v10 : BitVec 1 := Scalar.andi v8 v9
  let v11 : BitVec 32 := Scalar.extui v10
  let c0_i32_3 : BitVec 32 := 0#32
  let v12 : BitVec 1 := Scalar.cmpi .ne v11 c0_i32_3
  v12

def k0_off6 (i : grid0.Coords) : Fin 2 → Nat :=
  let arg0 : BitVec 32 := BitVec.ofNat 32 (i 0).val
  let c8_i32_8 : BitVec 32 := 8#32
  let v21 : BitVec 32 := Scalar.subi arg0 c8_i32_8
  let c512_i32 : BitVec 32 := 512#32
  let v22 : BitVec 32 := Scalar.muli v21 c512_i32
  let v23 : Index := Scalar.indexCast v22
  let c0 : Index := 0#32
  ![v23.toNat, 0]
def k0_cond4 (i : grid0.Coords) : BitVec 1 :=
  let arg0 : BitVec 32 := BitVec.ofNat 32 (i 0).val
  let c12_i32_4 : BitVec 32 := 12#32
  let v13 : BitVec 1 := Scalar.cmpi .sge arg0 c12_i32_4
  let c16_i32 : BitVec 32 := 16#32
  let v14 : BitVec 1 := Scalar.cmpi .slt arg0 c16_i32
  let v15 : BitVec 1 := Scalar.andi v13 v14
  let v16 : BitVec 32 := Scalar.extui v15
  let c0_i32_5 : BitVec 32 := 0#32
  let v17 : BitVec 1 := Scalar.cmpi .ne v16 c0_i32_5
  v17

def k0_off7 (i : grid0.Coords) : Fin 2 → Nat :=
  let arg0 : BitVec 32 := BitVec.ofNat 32 (i 0).val
  let c12_i32_8 : BitVec 32 := 12#32
  let v21 : BitVec 32 := Scalar.subi arg0 c12_i32_8
  let c512_i32 : BitVec 32 := 512#32
  let v22 : BitVec 32 := Scalar.muli v21 c512_i32
  let v23 : Index := Scalar.indexCast v22
  let c0 : Index := 0#32
  ![v23.toNat, 0]
def k0_off8 (i : grid0.Coords) : Fin 2 → Nat :=
  let c0_13 : Index := 0#32
  let arg0 : BitVec 32 := BitVec.ofNat 32 (i 0).val
  let c12_i32_8 : BitVec 32 := 12#32
  let v21 : BitVec 32 := Scalar.subi arg0 c12_i32_8
  let c512_i32 : BitVec 32 := 512#32
  let v22 : BitVec 32 := Scalar.muli v21 c512_i32
  let v36 : Index := Scalar.indexCast v22
  ![0, v36.toNat]
def k0_cond5 (i : grid0.Coords) : BitVec 1 :=
  let arg0 : BitVec 32 := BitVec.ofNat 32 (i 0).val
  let c16_i32_6 : BitVec 32 := 16#32
  let v18 : BitVec 1 := Scalar.cmpi .sge arg0 c16_i32_6
  let v19 : BitVec 32 := Scalar.extui v18
  let c0_i32_7 : BitVec 32 := 0#32
  let v20 : BitVec 1 := Scalar.cmpi .ne v19 c0_i32_7
  v20

def k0_off9 (i : grid0.Coords) : Fin 2 → Nat :=
  let arg0 : BitVec 32 := BitVec.ofNat 32 (i 0).val
  let c16_i32_8 : BitVec 32 := 16#32
  let v21 : BitVec 32 := Scalar.subi arg0 c16_i32_8
  let c256_i32 : BitVec 32 := 256#32
  let v22 : BitVec 32 := Scalar.muli v21 c256_i32
  let v23 : Index := Scalar.indexCast v22
  let c0 : Index := 0#32
  ![v23.toNat, 0]
def k0_off10 (i : grid0.Coords) : Fin 2 → Nat :=
  let arg0 : BitVec 32 := BitVec.ofNat 32 (i 0).val
  let c16_i32_8 : BitVec 32 := 16#32
  let v21 : BitVec 32 := Scalar.subi arg0 c16_i32_8
  let c256_i32 : BitVec 32 := 256#32
  let v22 : BitVec 32 := Scalar.muli v21 c256_i32
  let v73 : Index := Scalar.indexCast v22
  let c0_22 : Index := 0#32
  ![v73.toNat, 0]
def k0_cond6 (i : grid0.Coords) : BitVec 1 :=
  let arg0 : BitVec 32 := BitVec.ofNat 32 (i 0).val
  let c16_i32_8 : BitVec 32 := 16#32
  let v21 : BitVec 32 := Scalar.subi arg0 c16_i32_8
  let c0_i32_63 : BitVec 32 := 0#32
  let v228 : BitVec 1 := Scalar.cmpi .eq v21 c0_i32_63
  let v229 : BitVec 32 := Scalar.extui v228
  let c0_i32_64 : BitVec 32 := 0#32
  let v230 : BitVec 1 := Scalar.cmpi .ne v229 c0_i32_64
  v230

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "fifth" => some ((5⁻¹ : ℝ) : EReal)
  | _ => none
-- ==== ReferenceIdeal.lean ====
abbrev S2048x64 : Shape := ⟨2, ![2048, 64]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S64x2048 : Shape := ⟨2, ![64, 2048]⟩
abbrev S2048x10 : Shape := ⟨2, ![2048, 10]⟩
abbrev S2048x5 : Shape := ⟨2, ![2048, 5]⟩
abbrev S2048x10x1 : Shape := ⟨3, ![2048, 10, 1]⟩
abbrev S2048x10x2 : Shape := ⟨3, ![2048, 10, 2]⟩
abbrev S2048x5x1 : Shape := ⟨3, ![2048, 5, 1]⟩
abbrev S2048x5x2048 : Shape := ⟨3, ![2048, 5, 2048]⟩

abbrev nBuf : Space → Nat
  | .hbm => 484
  | .vmem => 0
  | .smem => 0
  | _ => 0

abbrev hbmTy0_0 (i : Nat) : BufTy := match i % 128 with
  | 0 => ⟨S2048x64, .f32⟩
  | 1 => ⟨S2048x64, .f32⟩
  | 2 => ⟨S2048x64, .f32⟩
  | 3 => ⟨S2048, .i32⟩
  | 4 => ⟨S2048x64, .f32⟩
  | 5 => ⟨S_, .f32⟩
  | 6 => ⟨S2048, .f32⟩
  | 7 => ⟨S2048x1, .f32⟩
  | 8 => ⟨S2048x1, .f32⟩
  | 9 => ⟨S_, .f32⟩
  | 10 => ⟨S2048x1, .f32⟩
  | 11 => ⟨S2048x1, .f32⟩
  | 12 => ⟨S2048x64, .f32⟩
  | 13 => ⟨S2048x64, .f32⟩
  | 14 => ⟨S2048x64, .f32⟩
  | 15 => ⟨S_, .f32⟩
  | 16 => ⟨S2048, .f32⟩
  | 17 => ⟨S2048x1, .f32⟩
  | 18 => ⟨S2048x64, .f32⟩
  | 19 => ⟨S_, .f32⟩
  | 20 => ⟨S2048, .f32⟩
  | 21 => ⟨S1x2048, .f32⟩
  | 22 => ⟨S2048x2048, .f32⟩
  | 23 => ⟨S2048x2048, .f32⟩
  | 24 => ⟨S2048x2048, .f32⟩
  | 25 => ⟨S64x2048, .f32⟩
  | 26 => ⟨S2048x2048, .f32⟩
  | 27 => ⟨S_, .f32⟩
  | 28 => ⟨S2048x2048, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S2048x2048, .f32⟩
  | 35 => ⟨S_, .f32⟩
  | 36 => ⟨S2048, .f32⟩
  | 37 => ⟨S2048x1, .f32⟩
  | 38 => ⟨S_, .f32⟩
  | 39 => ⟨S2048x1, .f32⟩
  | 40 => ⟨S2048x1, .f32⟩
  | 41 => ⟨S2048x2048, .f32⟩
  | 42 => ⟨S2048x2048, .f32⟩
  | 43 => ⟨S2048x64, .f32⟩
  | 44 => ⟨S_, .f32⟩
  | 45 => ⟨S2048, .f32⟩
  | 46 => ⟨S2048x1, .f32⟩
  | 47 => ⟨S2048x64, .f32⟩
  | 48 => ⟨S_, .f32⟩
  | 49 => ⟨S2048, .f32⟩
  | 50 => ⟨S1x2048, .f32⟩
  | 51 => ⟨S2048x2048, .f32⟩
  | 52 => ⟨S2048x2048, .f32⟩
  | 53 => ⟨S2048x2048, .f32⟩
  | 54 => ⟨S64x2048, .f32⟩
  | 55 => ⟨S2048x2048, .f32⟩
  | 56 => ⟨S_, .f32⟩
  | 57 => ⟨S2048x2048, .f32⟩
  | 58 => ⟨S2048x2048, .f32⟩
  | 59 => ⟨S2048x2048, .f32⟩
  | 60 => ⟨S_, .f32⟩
  | 61 => ⟨S2048x2048, .f32⟩
  | 62 => ⟨S2048x2048, .f32⟩
  | 63 => ⟨S2048x2048, .f32⟩
  | 64 => ⟨S2048x2048, .f32⟩
  | 65 => ⟨S2048x2048, .f32⟩
  | 66 => ⟨S2048x2048, .f32⟩
  | 67 => ⟨S2048x1, .i32⟩
  | 68 => ⟨S1x2048, .i32⟩
  | 69 => ⟨S2048x2048, .i32⟩
  | 70 => ⟨S2048x2048, .i32⟩
  | 71 => ⟨S2048x2048, .i1⟩
  | 72 => ⟨S_, .f32⟩
  | 73 => ⟨S_, .f32⟩
  | 74 => ⟨S2048x2048, .f32⟩
  | 75 => ⟨S2048x2048, .f32⟩
  | 76 => ⟨S2048x10, .f32⟩
  | 77 => ⟨S2048x10, .i32⟩
  | 78 => ⟨S2048x5, .i32⟩
  | 79 => ⟨S2048, .i32⟩
  | 80 => ⟨S2048x1, .i32⟩
  | 81 => ⟨S_, .f32⟩
  | 82 => ⟨S2048x2048, .f32⟩
  | 83 => ⟨S_, .i32⟩
  | 84 => ⟨S2048x1, .i32⟩
  | 85 => ⟨S2048x1, .i1⟩
  | 86 => ⟨S_, .i32⟩
  | 87 => ⟨S2048x1, .i32⟩
  | 88 => ⟨S2048x1, .i32⟩
  | 89 => ⟨S2048x1, .i32⟩
  | 90 => ⟨S_, .i32⟩
  | 91 => ⟨S2048x10, .i32⟩
  | 92 => ⟨S2048x10, .i1⟩
  | 93 => ⟨S_, .i32⟩
  | 94 => ⟨S2048x10, .i32⟩
  | 95 => ⟨S2048x10, .i32⟩
  | 96 => ⟨S2048x10, .i32⟩
  | 97 => ⟨S2048x10, .i32⟩
  | 98 => ⟨S2048x10x1, .i32⟩
  | 99 => ⟨S2048x10x1, .i32⟩
  | 100 => ⟨S2048x10x2, .i32⟩
  | 101 => ⟨S_, .f32⟩
  | 102 => ⟨S2048x10, .f32⟩
  | 103 => ⟨S2048x2048, .f32⟩
  | 104 => ⟨S2048x2048, .f32⟩
  | 105 => ⟨S2048x2048, .f32⟩
  | 106 => ⟨S_, .f32⟩
  | 107 => ⟨S2048x2048, .f32⟩
  | 108 => ⟨S2048x2048, .f32⟩
  | 109 => ⟨S_, .f32⟩
  | 110 => ⟨S2048x2048, .f32⟩
  | 111 => ⟨S2048x2048, .i1⟩
  | 112 => ⟨S2048x2048, .f32⟩
  | 113 => ⟨S_, .f32⟩
  | 114 => ⟨S2048, .f32⟩
  | 115 => ⟨S2048x2048, .f32⟩
  | 116 => ⟨S2048x2048, .f32⟩
  | 117 => ⟨S2048x1, .f32⟩
  | 118 => ⟨S_, .f32⟩
  | 119 => ⟨S2048x1, .f32⟩
  | 120 => ⟨S2048x1, .i1⟩
  | 121 => ⟨S2048x2048, .f32⟩
  | 122 => ⟨S_, .f32⟩
  | 123 => ⟨S2048, .f32⟩
  | 124 => ⟨S2048, .f32⟩
  | 125 => ⟨S2048x1, .f32⟩
  | 126 => ⟨S2048x2048, .f32⟩
  | 127 => ⟨S2048x2048, .f32⟩
  | _ => ⟨S2048x64, .f32⟩

abbrev hbmTy0_1 (i : Nat) : BufTy := match i % 128 with
  | 0 => ⟨S_, .f32⟩
  | 1 => ⟨S_, .f32⟩
  | 2 => ⟨S2048x2048, .i1⟩
  | 3 => ⟨S2048x2048, .f32⟩
  | 4 => ⟨S2048x2048, .f32⟩
  | 5 => ⟨S_, .i32⟩
  | 6 => ⟨S2048x5, .i32⟩
  | 7 => ⟨S2048x5, .i1⟩
  | 8 => ⟨S_, .i32⟩
  | 9 => ⟨S2048x5, .i32⟩
  | 10 => ⟨S2048x5, .i32⟩
  | 11 => ⟨S2048x5, .i32⟩
  | 12 => ⟨S2048x5x1, .i32⟩
  | 13 => ⟨S2048x5x2048, .f32⟩
  | 14 => ⟨S_, .f32⟩
  | 15 => ⟨S2048x2048, .f32⟩
  | 16 => ⟨S_, .f32⟩
  | 17 => ⟨S2048x2048, .f32⟩
  | 18 => ⟨S2048x2048, .f32⟩
  | 19 => ⟨S2048x2048, .f32⟩
  | 20 => ⟨S2048x2048, .f32⟩
  | 21 => ⟨S_, .f32⟩
  | 22 => ⟨S2048x2048, .f32⟩
  | 23 => ⟨S2048x2048, .f32⟩
  | 24 => ⟨S2048x2048, .f32⟩
  | 25 => ⟨S_, .f32⟩
  | 26 => ⟨S2048x2048, .f32⟩
  | 27 => ⟨S2048x2048, .f32⟩
  | 28 => ⟨S2048x2048, .i32⟩
  | 29 => ⟨S2048x2048, .i32⟩
  | 30 => ⟨S_, .i32⟩
  | 31 => ⟨S2048x2048, .i32⟩
  | 32 => ⟨S2048x2048, .i32⟩
  | 33 => ⟨S2048x2048, .i1⟩
  | 34 => ⟨S2048x2048, .f32⟩
  | 35 => ⟨S_, .f32⟩
  | 36 => ⟨S2048x2048, .f32⟩
  | 37 => ⟨S2048x2048, .f32⟩
  | 38 => ⟨S2048x2048, .f32⟩
  | 39 => ⟨S_, .f32⟩
  | 40 => ⟨S2048x2048, .f32⟩
  | 41 => ⟨S2048x2048, .f32⟩
  | 42 => ⟨S_, .f32⟩
  | 43 => ⟨S2048x2048, .f32⟩
  | 44 => ⟨S2048x2048, .f32⟩
  | 45 => ⟨S2048x2048, .f32⟩
  | 46 => ⟨S_, .f32⟩
  | 47 => ⟨S2048x2048, .f32⟩
  | 48 => ⟨S2048x2048, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S_, .f32⟩
  | 55 => ⟨S2048x2048, .f32⟩
  | 56 => ⟨S2048x2048, .f32⟩
  | 57 => ⟨S2048x2048, .f32⟩
  | 58 => ⟨S2048x2048, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S2048x64, .f32⟩
  | 67 => ⟨S_, .f32⟩
  | 68 => ⟨S2048, .f32⟩
  | 69 => ⟨S2048x1, .f32⟩
  | 70 => ⟨S2048x1, .f32⟩
  | 71 => ⟨S_, .f32⟩
  | 72 => ⟨S2048x1, .f32⟩
  | 73 => ⟨S2048x1, .f32⟩
  | 74 => ⟨S2048x64, .f32⟩
  | 75 => ⟨S2048x64, .f32⟩
  | 76 => ⟨S2048x64, .f32⟩
  | 77 => ⟨S_, .f32⟩
  | 78 => ⟨S2048, .f32⟩
  | 79 => ⟨S2048x1, .f32⟩
  | 80 => ⟨S2048x64, .f32⟩
  | 81 => ⟨S_, .f32⟩
  | 82 => ⟨S2048, .f32⟩
  | 83 => ⟨S1x2048, .f32⟩
  | 84 => ⟨S2048x2048, .f32⟩
  | 85 => ⟨S2048x2048, .f32⟩
  | 86 => ⟨S2048x2048, .f32⟩
  | 87 => ⟨S64x2048, .f32⟩
  | 88 => ⟨S2048x2048, .f32⟩
  | 89 => ⟨S_, .f32⟩
  | 90 => ⟨S2048x2048, .f32⟩
  | 91 => ⟨S2048x2048, .f32⟩
  | 92 => ⟨S2048x2048, .f32⟩
  | 93 => ⟨S_, .f32⟩
  | 94 => ⟨S2048x2048, .f32⟩
  | 95 => ⟨S2048x2048, .f32⟩
  | 96 => ⟨S2048x2048, .f32⟩
  | 97 => ⟨S_, .f32⟩
  | 98 => ⟨S2048, .f32⟩
  | 99 => ⟨S2048x1, .f32⟩
  | 100 => ⟨S_, .f32⟩
  | 101 => ⟨S2048x1, .f32⟩
  | 102 => ⟨S2048x1, .f32⟩
  | 103 => ⟨S2048x2048, .f32⟩
  | 104 => ⟨S2048x2048, .f32⟩
  | 105 => ⟨S2048x64, .f32⟩
  | 106 => ⟨S_, .f32⟩
  | 107 => ⟨S2048, .f32⟩
  | 108 => ⟨S2048x1, .f32⟩
  | 109 => ⟨S2048x64, .f32⟩
  | 110 => ⟨S_, .f32⟩
  | 111 => ⟨S2048, .f32⟩
  | 112 => ⟨S1x2048, .f32⟩
  | 113 => ⟨S2048x2048, .f32⟩
  | 114 => ⟨S2048x2048, .f32⟩
  | 115 => ⟨S2048x2048, .f32⟩
  | 116 => ⟨S64x2048, .f32⟩
  | 117 => ⟨S2048x2048, .f32⟩
  | 118 => ⟨S_, .f32⟩
  | 119 => ⟨S2048x2048, .f32⟩
  | 120 => ⟨S2048x2048, .f32⟩
  | 121 => ⟨S2048x2048, .f32⟩
  | 122 => ⟨S_, .f32⟩
  | 123 => ⟨S2048x2048, .f32⟩
  | 124 => ⟨S2048x2048, .f32⟩
  | 125 => ⟨S2048x2048, .f32⟩
  | 126 => ⟨S2048x2048, .f32⟩
  | 127 => ⟨S2048x2048, .f32⟩
  | _ => ⟨S2048x64, .f32⟩

abbrev hbmTy0_2 (i : Nat) : BufTy := match i % 128 with
  | 0 => ⟨S2048x2048, .f32⟩
  | 1 => ⟨S2048x1, .i32⟩
  | 2 => ⟨S1x2048, .i32⟩
  | 3 => ⟨S2048x2048, .i32⟩
  | 4 => ⟨S2048x2048, .i32⟩
  | 5 => ⟨S2048x2048, .i1⟩
  | 6 => ⟨S_, .f32⟩
  | 7 => ⟨S_, .f32⟩
  | 8 => ⟨S2048x2048, .f32⟩
  | 9 => ⟨S2048x2048, .f32⟩
  | 10 => ⟨S2048x10, .f32⟩
  | 11 => ⟨S2048x10, .i32⟩
  | 12 => ⟨S2048x5, .i32⟩
  | 13 => ⟨S2048, .i32⟩
  | 14 => ⟨S2048x1, .i32⟩
  | 15 => ⟨S_, .f32⟩
  | 16 => ⟨S2048x2048, .f32⟩
  | 17 => ⟨S_, .i32⟩
  | 18 => ⟨S2048x1, .i32⟩
  | 19 => ⟨S2048x1, .i1⟩
  | 20 => ⟨S_, .i32⟩
  | 21 => ⟨S2048x1, .i32⟩
  | 22 => ⟨S2048x1, .i32⟩
  | 23 => ⟨S2048x1, .i32⟩
  | 24 => ⟨S_, .i32⟩
  | 25 => ⟨S2048x10, .i32⟩
  | 26 => ⟨S2048x10, .i1⟩
  | 27 => ⟨S_, .i32⟩
  | 28 => ⟨S2048x10, .i32⟩
  | 29 => ⟨S2048x10, .i32⟩
  | 30 => ⟨S2048x10, .i32⟩
  | 31 => ⟨S2048x10, .i32⟩
  | 32 => ⟨S2048x10x1, .i32⟩
  | 33 => ⟨S2048x10x1, .i32⟩
  | 34 => ⟨S2048x10x2, .i32⟩
  | 35 => ⟨S_, .f32⟩
  | 36 => ⟨S2048x10, .f32⟩
  | 37 => ⟨S2048x2048, .f32⟩
  | 38 => ⟨S2048x2048, .f32⟩
  | 39 => ⟨S2048x2048, .f32⟩
  | 40 => ⟨S_, .f32⟩
  | 41 => ⟨S2048x2048, .f32⟩
  | 42 => ⟨S2048x2048, .f32⟩
  | 43 => ⟨S_, .f32⟩
  | 44 => ⟨S2048x2048, .f32⟩
  | 45 => ⟨S2048x2048, .i1⟩
  | 46 => ⟨S2048x2048, .f32⟩
  | 47 => ⟨S_, .f32⟩
  | 48 => ⟨S2048, .f32⟩
  | 49 => ⟨S2048x2048, .f32⟩
  | 50 => ⟨S2048x2048, .f32⟩
  | 51 => ⟨S2048x1, .f32⟩
  | 52 => ⟨S_, .f32⟩
  | 53 => ⟨S2048x1, .f32⟩
  | 54 => ⟨S2048x1, .i1⟩
  | 55 => ⟨S2048x2048, .f32⟩
  | 56 => ⟨S_, .f32⟩
  | 57 => ⟨S2048, .f32⟩
  | 58 => ⟨S2048, .f32⟩
  | 59 => ⟨S2048x1, .f32⟩
  | 60 => ⟨S2048x2048, .f32⟩
  | 61 => ⟨S2048x2048, .f32⟩
  | 62 => ⟨S_, .f32⟩
  | 63 => ⟨S_, .f32⟩
  | 64 => ⟨S2048x2048, .i1⟩
  | 65 => ⟨S2048x2048, .f32⟩
  | 66 => ⟨S2048x2048, .f32⟩
  | 67 => ⟨S_, .i32⟩
  | 68 => ⟨S2048x5, .i32⟩
  | 69 => ⟨S2048x5, .i1⟩
  | 70 => ⟨S_, .i32⟩
  | 71 => ⟨S2048x5, .i32⟩
  | 72 => ⟨S2048x5, .i32⟩
  | 73 => ⟨S2048x5, .i32⟩
  | 74 => ⟨S2048x5x1, .i32⟩
  | 75 => ⟨S2048x5x2048, .f32⟩
  | 76 => ⟨S_, .f32⟩
  | 77 => ⟨S2048x2048, .f32⟩
  | 78 => ⟨S_, .f32⟩
  | 79 => ⟨S2048x2048, .f32⟩
  | 80 => ⟨S2048x2048, .f32⟩
  | 81 => ⟨S2048x2048, .f32⟩
  | 82 => ⟨S2048x2048, .f32⟩
  | 83 => ⟨S_, .f32⟩
  | 84 => ⟨S2048x2048, .f32⟩
  | 85 => ⟨S2048x2048, .f32⟩
  | 86 => ⟨S2048x2048, .f32⟩
  | 87 => ⟨S_, .f32⟩
  | 88 => ⟨S2048x2048, .f32⟩
  | 89 => ⟨S2048x2048, .f32⟩
  | 90 => ⟨S2048x2048, .i32⟩
  | 91 => ⟨S2048x2048, .i32⟩
  | 92 => ⟨S_, .i32⟩
  | 93 => ⟨S2048x2048, .i32⟩
  | 94 => ⟨S2048x2048, .i32⟩
  | 95 => ⟨S2048x2048, .i1⟩
  | 96 => ⟨S2048x2048, .f32⟩
  | 97 => ⟨S_, .f32⟩
  | 98 => ⟨S2048x2048, .f32⟩
  | 99 => ⟨S2048x2048, .f32⟩
  | 100 => ⟨S2048x2048, .f32⟩
  | 101 => ⟨S_, .f32⟩
  | 102 => ⟨S2048x2048, .f32⟩
  | 103 => ⟨S2048x2048, .f32⟩
  | 104 => ⟨S_, .f32⟩
  | 105 => ⟨S2048x2048, .f32⟩
  | 106 => ⟨S2048x2048, .f32⟩
  | 107 => ⟨S2048x2048, .f32⟩
  | 108 => ⟨S_, .f32⟩
  | 109 => ⟨S2048x2048, .f32⟩
  | 110 => ⟨S2048x2048, .f32⟩
  | 111 => ⟨S2048x2048, .f32⟩
  | 112 => ⟨S2048x2048, .f32⟩
  | 113 => ⟨S_, .f32⟩
  | 114 => ⟨S2048x2048, .f32⟩
  | 115 => ⟨S2048x2048, .f32⟩
  | 116 => ⟨S_, .f32⟩
  | 117 => ⟨S2048x2048, .f32⟩
  | 118 => ⟨S2048x2048, .f32⟩
  | 119 => ⟨S2048x2048, .f32⟩
  | 120 => ⟨S2048x2048, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2048x64, .f32⟩

abbrev hbmTy0_3 (i : Nat) : BufTy := match i % 128 with
  | 0 => ⟨S_, .f32⟩
  | 1 => ⟨S_, .f32⟩
  | 2 => ⟨S_, .f32⟩
  | 3 => ⟨S2048x64, .f32⟩
  | 4 => ⟨S_, .f32⟩
  | 5 => ⟨S2048, .f32⟩
  | 6 => ⟨S2048x1, .f32⟩
  | 7 => ⟨S2048x64, .f32⟩
  | 8 => ⟨S_, .f32⟩
  | 9 => ⟨S2048, .f32⟩
  | 10 => ⟨S1x2048, .f32⟩
  | 11 => ⟨S2048x2048, .f32⟩
  | 12 => ⟨S2048x2048, .f32⟩
  | 13 => ⟨S2048x2048, .f32⟩
  | 14 => ⟨S64x2048, .f32⟩
  | 15 => ⟨S2048x2048, .f32⟩
  | 16 => ⟨S_, .f32⟩
  | 17 => ⟨S2048x2048, .f32⟩
  | 18 => ⟨S2048x2048, .f32⟩
  | 19 => ⟨S2048x2048, .f32⟩
  | 20 => ⟨S_, .f32⟩
  | 21 => ⟨S2048x2048, .f32⟩
  | 22 => ⟨S2048x2048, .f32⟩
  | 23 => ⟨S2048x2048, .f32⟩
  | 24 => ⟨S_, .f32⟩
  | 25 => ⟨S2048, .f32⟩
  | 26 => ⟨S2048x1, .f32⟩
  | 27 => ⟨S_, .f32⟩
  | 28 => ⟨S2048x1, .f32⟩
  | 29 => ⟨S2048x1, .f32⟩
  | 30 => ⟨S2048x2048, .f32⟩
  | 31 => ⟨S2048x2048, .f32⟩
  | 32 => ⟨S2048x64, .f32⟩
  | 33 => ⟨S_, .f32⟩
  | 34 => ⟨S2048, .f32⟩
  | 35 => ⟨S2048x1, .f32⟩
  | 36 => ⟨S2048x64, .f32⟩
  | 37 => ⟨S_, .f32⟩
  | 38 => ⟨S2048, .f32⟩
  | 39 => ⟨S1x2048, .f32⟩
  | 40 => ⟨S2048x2048, .f32⟩
  | 41 => ⟨S2048x2048, .f32⟩
  | 42 => ⟨S2048x2048, .f32⟩
  | 43 => ⟨S64x2048, .f32⟩
  | 44 => ⟨S2048x2048, .f32⟩
  | 45 => ⟨S_, .f32⟩
  | 46 => ⟨S2048x2048, .f32⟩
  | 47 => ⟨S2048x2048, .f32⟩
  | 48 => ⟨S2048x2048, .f32⟩
  | 49 => ⟨S_, .f32⟩
  | 50 => ⟨S2048x2048, .f32⟩
  | 51 => ⟨S2048x2048, .f32⟩
  | 52 => ⟨S2048x2048, .f32⟩
  | 53 => ⟨S_, .f32⟩
  | 54 => ⟨S2048, .f32⟩
  | 55 => ⟨S2048x1, .f32⟩
  | 56 => ⟨S_, .f32⟩
  | 57 => ⟨S2048x1, .f32⟩
  | 58 => ⟨S2048x1, .f32⟩
  | 59 => ⟨S2048x2048, .f32⟩
  | 60 => ⟨S2048x2048, .f32⟩
  | 61 => ⟨S2048x2048, .f32⟩
  | 62 => ⟨S2048x2048, .f32⟩
  | 63 => ⟨S_, .f32⟩
  | 64 => ⟨S2048, .f32⟩
  | 65 => ⟨S_, .f32⟩
  | 66 => ⟨S2048, .f32⟩
  | 67 => ⟨S2048, .f32⟩
  | 68 => ⟨S2048x1, .f32⟩
  | 69 => ⟨S2048x2048, .f32⟩
  | 70 => ⟨S2048x2048, .f32⟩
  | 71 => ⟨S2048x2048, .f32⟩
  | 72 => ⟨S_, .f32⟩
  | 73 => ⟨S2048, .f32⟩
  | 74 => ⟨S2048x1, .f32⟩
  | 75 => ⟨S2048x1, .f32⟩
  | 76 => ⟨S2048x2048, .f32⟩
  | 77 => ⟨S2048x2048, .f32⟩
  | 78 => ⟨S_, .f32⟩
  | 79 => ⟨S2048, .f32⟩
  | 80 => ⟨S_, .f32⟩
  | 81 => ⟨S2048, .f32⟩
  | 82 => ⟨S2048, .f32⟩
  | 83 => ⟨S2048x1, .f32⟩
  | 84 => ⟨S2048x2048, .f32⟩
  | 85 => ⟨S2048x2048, .f32⟩
  | 86 => ⟨S2048x2048, .f32⟩
  | 87 => ⟨S_, .f32⟩
  | 88 => ⟨S2048, .f32⟩
  | 89 => ⟨S2048x1, .f32⟩
  | 90 => ⟨S2048x2048, .f32⟩
  | 91 => ⟨S2048x2048, .f32⟩
  | 92 => ⟨S2048x2048, .f32⟩
  | 93 => ⟨S2048x2048, .f32⟩
  | 94 => ⟨S2048x2048, .f32⟩
  | 95 => ⟨S_, .f32⟩
  | 96 => ⟨S_, .f32⟩
  | 97 => ⟨S_, .f32⟩
  | 98 => ⟨S_, .f32⟩
  | 99 => ⟨S_, .f32⟩
  | _ => ⟨S2048x64, .f32⟩

abbrev hbmTy (i : Nat) : BufTy := match i / 128 with
  | 0 => hbmTy0_0 i
  | 1 => hbmTy0_1 i
  | 2 => hbmTy0_2 i
  | 3 => hbmTy0_3 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_call1_v0 : Ref sig .tc := ⟨.hbm, 73, rfl⟩
abbrev main_call1_v1 : Ref sig .tc := ⟨.hbm, 74, rfl⟩
abbrev main_v53 : Ref sig .tc := ⟨.hbm, 75, rfl⟩
abbrev main_values : Ref sig .tc := ⟨.hbm, 76, rfl⟩
abbrev main_indices : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_c : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_v93 : Ref sig .tc := ⟨.hbm, 132, rfl⟩
abbrev main_c_22 : Ref sig .tc := ⟨.hbm, 133, rfl⟩
abbrev main_v94 : Ref sig .tc := ⟨.hbm, 134, rfl⟩
abbrev main_v95 : Ref sig .tc := ⟨.hbm, 135, rfl⟩
abbrev main_c_23 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_24 : Ref sig .tc := ⟨.hbm, 142, rfl⟩
abbrev main_v101 : Ref sig .tc := ⟨.hbm, 143, rfl⟩
abbrev main_cst_25 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_26 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_27 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_28 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_29 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_30 : Ref sig .tc := ⟨.hbm, 167, rfl⟩
abbrev main_v120 : Ref sig .tc := ⟨.hbm, 168, rfl⟩
abbrev main_v121 : Ref sig .tc := ⟨.hbm, 169, rfl⟩
abbrev main_cst_31 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_32 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_33 : Ref sig .tc := ⟨.hbm, 179, rfl⟩
abbrev main_v129 : Ref sig .tc := ⟨.hbm, 180, rfl⟩
abbrev main_v130 : Ref sig .tc := ⟨.hbm, 181, rfl⟩
abbrev main_cst_34 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_35 : Ref sig .tc := ⟨.hbm, 187, rfl⟩
abbrev main_v135 : Ref sig .tc := ⟨.hbm, 188, rfl⟩
abbrev main_cst_36 : Ref sig .tc := ⟨.hbm, 189, rfl⟩
abbrev main_v136 : Ref sig .tc := ⟨.hbm, 190, rfl⟩
abbrev main_v137 : Ref sig .tc := ⟨.hbm, 191, rfl⟩
abbrev main_cst_37 : Ref sig .tc := ⟨.hbm, 192, rfl⟩
abbrev main_v138 : Ref sig .tc := ⟨.hbm, 193, rfl⟩
abbrev main_call3_v0 : Ref sig .tc := ⟨.hbm, 194, rfl⟩
abbrev main_call3_cst : Ref sig .tc := ⟨.hbm, 195, rfl⟩
abbrev main_call3_v1 : Ref sig .tc := ⟨.hbm, 196, rfl⟩
abbrev main_call3_v2 : Ref sig .tc := ⟨.hbm, 197, rfl⟩
abbrev main_v139 : Ref sig .tc := ⟨.hbm, 198, rfl⟩
abbrev main_cst_38 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_39 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_40 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_41 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_cst_42 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_43 : Ref sig .tc := ⟨.hbm, 225, rfl⟩
abbrev main_v161 : Ref sig .tc := ⟨.hbm, 226, rfl⟩
abbrev main_v162 : Ref sig .tc := ⟨.hbm, 227, rfl⟩
abbrev main_cst_44 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_cst_45 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_cst_46 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_cst_47 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_cst_48 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_cst_49 : Ref sig .tc := ⟨.hbm, 262, rfl⟩
abbrev main_call4_v0 : Ref sig .tc := ⟨.hbm, 263, rfl⟩
abbrev main_call4_v1 : Ref sig .tc := ⟨.hbm, 264, rfl⟩
abbrev main_v192 : Ref sig .tc := ⟨.hbm, 265, rfl⟩
abbrev main_values_50 : Ref sig .tc := ⟨.hbm, 266, rfl⟩
abbrev main_indices_51 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_cst_52 : Ref sig .tc := ⟨.hbm, 271, rfl⟩
abbrev main_v196 : Ref sig .tc := ⟨.hbm, 272, rfl⟩
abbrev main_c_53 : Ref sig .tc := ⟨.hbm, 273, rfl⟩
abbrev main_v197 : Ref sig .tc := ⟨.hbm, 274, rfl⟩
abbrev main_v198 : Ref sig .tc := ⟨.hbm, 275, rfl⟩
abbrev main_c_54 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_c_55 : Ref sig .tc := ⟨.hbm, 280, rfl⟩
abbrev main_v202 : Ref sig .tc := ⟨.hbm, 281, rfl⟩
abbrev main_v203 : Ref sig .tc := ⟨.hbm, 282, rfl⟩
abbrev main_c_56 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_cst_57 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_cst_58 : Ref sig .tc := ⟨.hbm, 296, rfl⟩
abbrev main_v215 : Ref sig .tc := ⟨.hbm, 297, rfl⟩
abbrev main_v216 : Ref sig .tc := ⟨.hbm, 298, rfl⟩
abbrev main_cst_59 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_cst_60 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_cst_61 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_cst_62 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_cst_63 : Ref sig .tc := ⟨.hbm, 318, rfl⟩
abbrev main_call5_v0 : Ref sig .tc := ⟨.hbm, 319, rfl⟩
abbrev main_call5_v1 : Ref sig .tc := ⟨.hbm, 320, rfl⟩
abbrev main_call5_v2 : Ref sig .tc := ⟨.hbm, 321, rfl⟩
abbrev main_v232 : Ref sig .tc := ⟨.hbm, 322, rfl⟩
abbrev main_c_64 : Ref sig .tc := ⟨.hbm, 323, rfl⟩
abbrev main_v233 : Ref sig .tc := ⟨.hbm, 324, rfl⟩
abbrev main_v234 : Ref sig .tc := ⟨.hbm, 325, rfl⟩
abbrev main_c_65 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_cst_66 : Ref sig .tc := ⟨.hbm, 332, rfl⟩
abbrev main_v240 : Ref sig .tc := ⟨.hbm, 333, rfl⟩
abbrev main_cst_67 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_cst_68 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_cst_69 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_c_70 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_cst_71 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_cst_72 : Ref sig .tc := ⟨.hbm, 357, rfl⟩
abbrev main_v259 : Ref sig .tc := ⟨.hbm, 358, rfl⟩
abbrev main_v260 : Ref sig .tc := ⟨.hbm, 359, rfl⟩
abbrev main_cst_73 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_cst_74 : Ref sig .tc := ⟨.hbm, 364, rfl⟩
abbrev main_v264 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_cst_75 : Ref sig .tc := ⟨.hbm, 369, rfl⟩
abbrev main_v268 : Ref sig .tc := ⟨.hbm, 370, rfl⟩
abbrev main_v269 : Ref sig .tc := ⟨.hbm, 371, rfl⟩
abbrev main_cst_76 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_v273 : Ref sig .tc := ⟨.hbm, 376, rfl⟩
abbrev main_cst_77 : Ref sig .tc := ⟨.hbm, 377, rfl⟩
abbrev main_v274 : Ref sig .tc := ⟨.hbm, 378, rfl⟩
abbrev main_cst_78 : Ref sig .tc := ⟨.hbm, 379, rfl⟩
abbrev main_v275 : Ref sig .tc := ⟨.hbm, 380, rfl⟩
abbrev main_v276 : Ref sig .tc := ⟨.hbm, 381, rfl⟩
abbrev main_cst_79 : Ref sig .tc := ⟨.hbm, 382, rfl⟩
abbrev main_v277 : Ref sig .tc := ⟨.hbm, 383, rfl⟩
abbrev main_v278 : Ref sig .tc := ⟨.hbm, 384, rfl⟩
abbrev main_cst_80 : Ref sig .tc := ⟨.hbm, 385, rfl⟩
abbrev main_v279 : Ref sig .tc := ⟨.hbm, 386, rfl⟩
abbrev main_v280 : Ref sig .tc := ⟨.hbm, 387, rfl⟩
abbrev main_cst_81 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_cst_82 : Ref sig .tc := ⟨.hbm, 392, rfl⟩
abbrev main_v284 : Ref sig .tc := ⟨.hbm, 393, rfl⟩
abbrev main_v285 : Ref sig .tc := ⟨.hbm, 394, rfl⟩
abbrev main_v286 : Ref sig .tc := ⟨.hbm, 395, rfl⟩
abbrev main_v287 : Ref sig .tc := ⟨.hbm, 396, rfl⟩
abbrev main_v288 : Ref sig .tc := ⟨.hbm, 397, rfl⟩
abbrev main_v289 : Ref sig .tc := ⟨.hbm, 398, rfl⟩
abbrev main_v290 : Ref sig .tc := ⟨.hbm, 399, rfl⟩
abbrev main_cst_83 : Ref sig .tc := ⟨.hbm, 400, rfl⟩
abbrev main_v291 : Ref sig .tc := ⟨.hbm, 401, rfl⟩
abbrev main_v292 : Ref sig .tc := ⟨.hbm, 402, rfl⟩
abbrev main_v293 : Ref sig .tc := ⟨.hbm, 403, rfl⟩
abbrev main_cst_84 : Ref sig .tc := ⟨.hbm, 404, rfl⟩
abbrev main_v294 : Ref sig .tc := ⟨.hbm, 405, rfl⟩
abbrev main_v295 : Ref sig .tc := ⟨.hbm, 406, rfl⟩
abbrev main_v296 : Ref sig .tc := ⟨.hbm, 407, rfl⟩
abbrev main_cst_85 : Ref sig .tc := ⟨.hbm, 408, rfl⟩
abbrev main_v297 : Ref sig .tc := ⟨.hbm, 409, rfl⟩
abbrev main_v298 : Ref sig .tc := ⟨.hbm, 410, rfl⟩
abbrev main_cst_86 : Ref sig .tc := ⟨.hbm, 411, rfl⟩
abbrev main_v299 : Ref sig .tc := ⟨.hbm, 412, rfl⟩
abbrev main_v300 : Ref sig .tc := ⟨.hbm, 413, rfl⟩
abbrev main_v301 : Ref sig .tc := ⟨.hbm, 414, rfl⟩
abbrev main_v302 : Ref sig .tc := ⟨.hbm, 415, rfl⟩
abbrev main_v303 : Ref sig .tc := ⟨.hbm, 416, rfl⟩
abbrev main_cst_87 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_cst_88 : Ref sig .tc := ⟨.hbm, 421, rfl⟩
abbrev main_v307 : Ref sig .tc := ⟨.hbm, 422, rfl⟩
abbrev main_v308 : Ref sig .tc := ⟨.hbm, 423, rfl⟩
abbrev main_v309 : Ref sig .tc := ⟨.hbm, 424, rfl⟩
abbrev main_v310 : Ref sig .tc := ⟨.hbm, 425, rfl⟩
abbrev main_v311 : Ref sig .tc := ⟨.hbm, 426, rfl⟩
abbrev main_v312 : Ref sig .tc := ⟨.hbm, 427, rfl⟩
abbrev main_v313 : Ref sig .tc := ⟨.hbm, 428, rfl⟩
abbrev main_cst_89 : Ref sig .tc := ⟨.hbm, 429, rfl⟩
abbrev main_v314 : Ref sig .tc := ⟨.hbm, 430, rfl⟩
abbrev main_v315 : Ref sig .tc := ⟨.hbm, 431, rfl⟩
abbrev main_v316 : Ref sig .tc := ⟨.hbm, 432, rfl⟩
abbrev main_cst_90 : Ref sig .tc := ⟨.hbm, 433, rfl⟩
abbrev main_v317 : Ref sig .tc := ⟨.hbm, 434, rfl⟩
abbrev main_v318 : Ref sig .tc := ⟨.hbm, 435, rfl⟩
abbrev main_v319 : Ref sig .tc := ⟨.hbm, 436, rfl⟩
abbrev main_cst_91 : Ref sig .tc := ⟨.hbm, 437, rfl⟩
abbrev main_v320 : Ref sig .tc := ⟨.hbm, 438, rfl⟩
abbrev main_v321 : Ref sig .tc := ⟨.hbm, 439, rfl⟩
abbrev main_cst_92 : Ref sig .tc := ⟨.hbm, 440, rfl⟩
abbrev main_v322 : Ref sig .tc := ⟨.hbm, 441, rfl⟩
abbrev main_v323 : Ref sig .tc := ⟨.hbm, 442, rfl⟩
abbrev main_v324 : Ref sig .tc := ⟨.hbm, 443, rfl⟩
abbrev main_v325 : Ref sig .tc := ⟨.hbm, 444, rfl⟩
abbrev main_v326 : Ref sig .tc := ⟨.hbm, 445, rfl⟩
abbrev main_v327 : Ref sig .tc := ⟨.hbm, 446, rfl⟩
abbrev main_call6_cst : Ref sig .tc := ⟨.hbm, 447, rfl⟩
abbrev main_call6_v0 : Ref sig .tc := ⟨.hbm, 448, rfl⟩
abbrev main_call6_cst_0 : Ref sig .tc := ⟨.hbm, 449, rfl⟩
abbrev main_call6_v1 : Ref sig .tc := ⟨.hbm, 450, rfl⟩
abbrev main_call6_v2 : Ref sig .tc := ⟨.hbm, 451, rfl⟩
abbrev main_call6_v3 : Ref sig .tc := ⟨.hbm, 452, rfl⟩
abbrev main_call6_v4 : Ref sig .tc := ⟨.hbm, 453, rfl⟩
abbrev main_call6_v5 : Ref sig .tc := ⟨.hbm, 454, rfl⟩
abbrev main_call6_v6 : Ref sig .tc := ⟨.hbm, 455, rfl⟩
abbrev main_call6_cst_1 : Ref sig .tc := ⟨.hbm, 456, rfl⟩
abbrev main_call6_v7 : Ref sig .tc := ⟨.hbm, 457, rfl⟩
abbrev main_call6_v8 : Ref sig .tc := ⟨.hbm, 458, rfl⟩
abbrev main_call6_v9 : Ref sig .tc := ⟨.hbm, 459, rfl⟩
abbrev main_call6_v10 : Ref sig .tc := ⟨.hbm, 460, rfl⟩
abbrev main_v328 : Ref sig .tc := ⟨.hbm, 461, rfl⟩
abbrev main_cst_93 : Ref sig .tc := ⟨.hbm, 462, rfl⟩
abbrev main_v329 : Ref sig .tc := ⟨.hbm, 463, rfl⟩
abbrev main_cst_94 : Ref sig .tc := ⟨.hbm, 464, rfl⟩
abbrev main_v330 : Ref sig .tc := ⟨.hbm, 465, rfl⟩
abbrev main_v331 : Ref sig .tc := ⟨.hbm, 466, rfl⟩
abbrev main_v332 : Ref sig .tc := ⟨.hbm, 467, rfl⟩
abbrev main_v333 : Ref sig .tc := ⟨.hbm, 468, rfl⟩
abbrev main_v334 : Ref sig .tc := ⟨.hbm, 469, rfl⟩
abbrev main_v335 : Ref sig .tc := ⟨.hbm, 470, rfl⟩
abbrev main_cst_95 : Ref sig .tc := ⟨.hbm, 471, rfl⟩
abbrev main_v336 : Ref sig .tc := ⟨.hbm, 472, rfl⟩
abbrev main_v337 : Ref sig .tc := ⟨.hbm, 473, rfl⟩
abbrev main_v338 : Ref sig .tc := ⟨.hbm, 474, rfl⟩
abbrev main_v339 : Ref sig .tc := ⟨.hbm, 475, rfl⟩
abbrev main_v340 : Ref sig .tc := ⟨.hbm, 476, rfl⟩
abbrev main_v341 : Ref sig .tc := ⟨.hbm, 477, rfl⟩
abbrev main_v342 : Ref sig .tc := ⟨.hbm, 478, rfl⟩
abbrev main_cst_96 : Ref sig .tc := ⟨.hbm, 479, rfl⟩
abbrev main_v343 : Ref sig .tc := ⟨.hbm, 480, rfl⟩
abbrev main_cst_97 : Ref sig .tc := ⟨.hbm, 481, rfl⟩
abbrev main_v344 : Ref sig .tc := ⟨.hbm, 482, rfl⟩
abbrev main_v345 : Ref sig .tc := ⟨.hbm, 483, rfl⟩

abbrev nD : Nat := 1
abbrev τ : Topo := Topo.v7x

variable {F : FTy → Type} [FloatOps F]
-- ==== Proof.KI.Body.lean ====
/-
  Hand-written, untrusted. The kernel's body run once per kind of grid point, at any float values: what each of the five
  VMEM scratch matrices and the three one-element outputs hold afterwards, as functions of what they held before.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

/-- The five scratch matrices, whole. -/
abbrev scA : Memref sig .tc .vmem S2048x2048 .bf16 := Memref.whole cc0_scratch0
abbrev scB : Memref sig .tc .vmem S2048x2048 .bf16 := Memref.whole cc0_scratch1
abbrev scH : Memref sig .tc .vmem S2048x2048 .bf16 := Memref.whole cc0_scratch2
abbrev scD : Memref sig .tc .vmem S2048x2048 .bf16 := Memref.whole cc0_scratch3
abbrev scE : Memref sig .tc .vmem S2048x2048 .bf16 := Memref.whole cc0_scratch4

/-! ## What one point computes, of the blocks it loads -/

/-- The column numbers of one block. -/
abbrev io512 : IVec S512x2048 32 := iota .tc S512x2048 32 [1] iota_S512x2048_d1_w32
/-- The weights of one block of rows, and the first masked columns. -/
def w0 (x : FVec F S512x64 .f32) (T : FVec F S2048x64 .f32) (ic : IVec S512x1 32) (ir : IVec S1x2048 32) : FVec F S512x2048 .f32 :=
  k0_pay11 (k0_pay10 x T) ic ir
def q0 (x : FVec F S512x64 .f32) (T : FVec F S2048x64 .f32) (ic : IVec S512x1 32) (ir : IVec S1x2048 32) : IVec S512x2048 1 :=
  k0_pay12 (k0_pay10 x T) ic ir
def w1 (x : FVec F S512x64 .f32) (T : FVec F S2048x64 .f32) (ic : IVec S512x1 32) (ir : IVec S1x2048 32) : FVec F S512x2048 .f32 :=
  k0_pay13 io512 (w0 x T ic ir) (q0 x T ic ir) 2048#32
def h1 (x : FVec F S512x64 .f32) (T : FVec F S2048x64 .f32) (ic : IVec S512x1 32) (ir : IVec S1x2048 32) : IVec S512x2048 1 :=
  k0_pay14 io512 (w0 x T ic ir) (q0 x T ic ir) 2048#32
def q1 (x : FVec F S512x64 .f32) (T : FVec F S2048x64 .f32) (ic : IVec S512x1 32) (ir : IVec S1x2048 32) : IVec S512x2048 1 :=
  k0_pay15 io512 (w0 x T ic ir) (q0 x T ic ir) 2048#32
def w2 (x : FVec F S512x64 .f32) (T : FVec F S2048x64 .f32) (ic : IVec S512x1 32) (ir : IVec S1x2048 32) : FVec F S512x2048 .f32 :=
  k0_pay17 io512 (w1 x T ic ir) (q1 x T ic ir) (k0_pay16 (F := F))
def q2 (x : FVec F S512x64 .f32) (T : FVec F S2048x64 .f32) (ic : IVec S512x1 32) (ir : IVec S1x2048 32) : IVec S512x1 32 :=
  k0_pay18 io512 (w1 x T ic ir) (q1 x T ic ir) (k0_pay16 (F := F))
/-- The selected columns of one block, the same turned, and the first five selected. -/
def selT (x : FVec F S512x64 .f32) (T : FVec F S2048x64 .f32) (ic : IVec S512x1 32) (ir : IVec S1x2048 32) : FVec F S512x2048 .bf16 :=
  k0_pay2 io512 (w2 x T ic ir) (q2 x T ic ir)
def selTt (x : FVec F S512x64 .f32) (T : FVec F S2048x64 .f32) (ic : IVec S512x1 32) (ir : IVec S1x2048 32) : FVec F S2048x512 .bf16 :=
  k0_pay3 io512 (w2 x T ic ir) (q2 x T ic ir)
def halfT (x : FVec F S512x64 .f32) (T : FVec F S2048x64 .f32) (ic : IVec S512x1 32) (ir : IVec S1x2048 32) : FVec F S512x2048 .bf16 :=
  k0_pay4 (F := F) (h1 x T ic ir)

/-- The weight block of a last-stage point and its complement off the diagonal. -/
def wo (r : BitVec 32) (x : FVec F S256x64 .f32) (T : FVec F S2048x64 .f32) (d e : FVec F S256x2048 .bf16) : FVec F S256x2048 .f32 :=
  k0_pay25 r (k0_pay21 x T) (k0_pay22 x T) (k0_pay23 (F := F)) d e
def wo2 (r : BitVec 32) (x : FVec F S256x64 .f32) (T : FVec F S2048x64 .f32) (d e : FVec F S256x2048 .bf16) : FVec F S256x2048 .f32 :=
  k0_pay26 r (k0_pay21 x T) (k0_pay22 x T) (k0_pay23 (F := F)) d e
/-- The first embedding's share of a point. -/
def lossF (p q : FVec F S256x2048 .f32) (f : FVec F S256x64 .f32) (Fm : FVec F S2048x64 .f32) : FVec F S1x1 .f32 :=
  k0_pay34 p q (k0_pay27 f Fm) (k0_pay28 f) (k0_pay29 f) (k0_pay30 Fm) (k0_pay31 Fm)
def snF (f : FVec F S256x64 .f32) (Fm : FVec F S2048x64 .f32) : FVec F S256x2048 .f32 :=
  k0_pay32 (k0_pay27 f Fm) (k0_pay28 f) (k0_pay29 f) (k0_pay30 Fm) (k0_pay31 Fm)
def lseF (f : FVec F S256x64 .f32) (Fm : FVec F S2048x64 .f32) : FVec F S256x1 .f32 :=
  k0_pay33 (k0_pay27 f Fm) (k0_pay28 f) (k0_pay29 f) (k0_pay30 Fm) (k0_pay31 Fm)
/-- The second embedding's. -/
def lossG (p q : FVec F S256x2048 .f32) (g : FVec F S256x64 .f32) (G : FVec F S2048x64 .f32) : FVec F S1x256x2048 .f32 :=
  k0_pay41 p q g G (k0_pay35 g) (k0_pay36 G)
/-- One point's update of the third output. -/
def klStep (f : FVec F S256x64 .f32) (Fm : FVec F S2048x64 .f32) (g : FVec F S256x64 .f32) (G : FVec F S2048x64 .f32) (acc : FVec F S1x1 .f32) : FVec F S1x1 .f32 :=
  k0_pay47 (snF f Fm) (lseF f Fm) (k0_pay37 g G (k0_pay35 g) (k0_pay36 G)) (k0_pay38 g G (k0_pay35 g) (k0_pay36 G))
    (k0_pay39 g G (k0_pay35 g) (k0_pay36 G)) (k0_pay40 g G (k0_pay35 g) (k0_pay36 G)) acc

/-- The body on the eight operands and the five scratch matrices. -/
abbrev body (i : grid0.Coords) (arg1 : Memref sig .tc .vmem S2048x64 .f32) (harg1 : arg1.IsWhole) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) :=
  cc0__mega (F := F) i arg1 harg1 arg2 harg2 arg3 harg3 arg4 harg4 arg5 harg5 arg6 harg6 arg7 harg7 arg8 harg8 scA (Memref.isWhole_whole _) scB (Memref.isWhole_whole _) scH (Memref.isWhole_whole _) scD (Memref.isWhole_whole _) scE (Memref.isWhole_whole _)

theorem readAt_box {sig : RefSig} {κ : Kind} {sp : Space} {s : Shape} {e : EltTy} {Val : EltTy → Type} (v : View sig κ sp s e) (f : v.ty.Contents Val)
    (off size : Fin s.rank → ℕ) (inb : ∀ a, off a + size a ≤ s.size a) :
    v.readAt Val (Rect.unit off size inb).toLoadRect f = window (v.read Val f) off size inb := rfl

theorem congr2 {α β γ : Sort _} (f : α → β → γ) {a a' : α} {b b' : β} (ha : a = a') (hb : b = b') : f a b = f a' b' := by rw [ha, hb]
theorem congr3 {α β γ δ : Sort _} (f : α → β → γ → δ) {a a' : α} {b b' : β} {c c' : γ} (ha : a = a') (hb : b = b') (hc : c = c') : f a b c = f a' b' c' := by
  rw [ha, hb, hc]

/-- The window of a whole matrix is the matrix. -/
theorem window_all {a b : ℕ} {Val : Type} (x : (⟨2, ![a, b]⟩ : Shape).Idx → Val) (inb : ∀ k, (![0, 0] : Fin 2 → ℕ) k + (![a, b] : Fin 2 → ℕ) k ≤ (⟨2, ![a, b]⟩ : Shape).size k) :
    window x ![0, 0] ![a, b] inb = x := by
  funext y
  exact congrArg x (Rect.emb_unit_full (s := ⟨2, ![a, b]⟩) inb y)

theorem window_all_f (x : S2048x64.Idx → Elt F .f32) (inb) : window x ![0, 0] ![2048, 64] inb = x := window_all x inb
theorem window_all_r (x : S1x2048.Idx → Elt F .i32) (inb) : window x ![0, 0] ![1, 2048] inb = x := window_all x inb
theorem window_all_s (x : S2048x2048.Idx → Elt F .bf16) (inb) : window x ![0, 0] ![2048, 2048] inb = x := window_all x inb
theorem window_all_1 (x : S1x1.Idx → Elt F .f32) (inb) : window x ![0, 0] ![1, 1] inb = x := window_all x inb
theorem cov_1 {sig : RefSig} {κ : Kind} {sp : Space} (v : View sig κ sp S1x1 .f32) (inb inb') (w : S1x1.Idx → Elt F .f32) :
    v.readCov [⟨Rect.unit ![0, 0] ![1, 1] inb', w⟩] (Rect.unit ![0, 0] ![1, 1] inb).toLoadRect = w := View.readCov_full v inb inb' w []

end Cert.KernelIdeal.Hand

end
-- ==== Proof.KI.Stage.lean ====
/-
  Hand-written, untrusted. The kernel's body run once per kind of grid point, at any float values: what each of the five
  VMEM scratch matrices and the three one-element outputs hold afterwards, as functions of what they held before.
-/
module

public import proofs.«01_k».proof.Proof.KI.Body
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable {α : Type}

/-! ## Blocks of rows and the arrays assembled of them -/

/-- Block `k` of 512 rows of an embedding matrix. -/
def rT (x : S2048x64.Idx → α) (k : ℕ) : S512x64.Idx → α :=
  window x ![512 * (k % 4), 0] S512x64.size fun a => by
    match a with
    | 0 => show 512 * (k % 4) + 512 ≤ 2048; omega
    | 1 => show 0 + 64 ≤ 64; omega
/-- Of the column of labels. -/
def rC (x : S2048x1.Idx → α) (k : ℕ) : S512x1.Idx → α :=
  window x ![512 * (k % 4), 0] S512x1.size fun a => by
    match a with
    | 0 => show 512 * (k % 4) + 512 ≤ 2048; omega
    | 1 => show 0 + 1 ≤ 1; omega
/-- Of a square matrix. -/
def rS (x : S2048x2048.Idx → α) (k : ℕ) : S512x2048.Idx → α :=
  window x ![512 * (k % 4), 0] S512x2048.size fun a => by
    match a with
    | 0 => show 512 * (k % 4) + 512 ≤ 2048; omega
    | 1 => show 0 + 2048 ≤ 2048; omega
/-- Block `k` of 256 rows of an embedding matrix. -/
def lT (x : S2048x64.Idx → α) (k : ℕ) : S256x64.Idx → α :=
  window x ![256 * (k % 8), 0] S256x64.size fun a => by
    match a with
    | 0 => show 256 * (k % 8) + 256 ≤ 2048; omega
    | 1 => show 0 + 64 ≤ 64; omega
/-- Of a square matrix. -/
def lS (x : S2048x2048.Idx → α) (k : ℕ) : S256x2048.Idx → α :=
  window x ![256 * (k % 8), 0] S256x2048.size fun a => by
    match a with
    | 0 => show 256 * (k % 8) + 256 ≤ 2048; omega
    | 1 => show 0 + 2048 ≤ 2048; omega

/-- The matrix whose four blocks of rows are given. -/
def asm (w : ℕ → S512x2048.Idx → α) : S2048x2048.Idx → α := fun y =>
  w ((y 0).val / 512) fun a => match a with
    | 0 => ⟨(y 0).val % 512, Nat.mod_lt _ (by decide)⟩
    | 1 => y 1
/-- The matrix whose four blocks of columns are given. -/
def asmC (w : ℕ → S2048x512.Idx → α) : S2048x2048.Idx → α := fun y =>
  w ((y 1).val / 512) fun a => match a with
    | 0 => y 0
    | 1 => ⟨(y 1).val % 512, Nat.mod_lt _ (by decide)⟩

theorem put_asm (x : S2048x2048.Idx → α) (w : ℕ → S512x2048.Idx → α) (k : ℕ) (y : S2048x2048.Idx) :
    put x ![512 * k, 0] S512x2048.size (w k) y = if 512 * k ≤ (y 0).val ∧ (y 0).val < 512 * k + 512 then asm w y else x y := by
  unfold put
  by_cases h : 512 * k ≤ (y 0).val ∧ (y 0).val < 512 * k + 512
  · rw [if_pos h, dif_pos (fun a => by
      match a with
      | 0 => exact h
      | 1 => exact ⟨Nat.zero_le _, by have := (y 1).isLt; show (y 1).val < 0 + 2048; change (y 1).val < 2048 at this; omega⟩)]
    have hk : (y 0).val / 512 = k := by omega
    unfold asm
    rw [hk]
    refine congrArg (w k) (funext fun a => Fin.ext ?_)
    match a with
    | 0 => show (y 0).val - 512 * k = (y 0).val % 512; omega
    | 1 => show (y 1).val - 0 = (y 1).val; omega
  · rw [if_neg h, dif_neg (fun hh => h (hh 0))]
theorem put_asmC (x : S2048x2048.Idx → α) (w : ℕ → S2048x512.Idx → α) (k : ℕ) (y : S2048x2048.Idx) :
    put x ![0, 512 * k] S2048x512.size (w k) y = if 512 * k ≤ (y 1).val ∧ (y 1).val < 512 * k + 512 then asmC w y else x y := by
  unfold put
  by_cases h : 512 * k ≤ (y 1).val ∧ (y 1).val < 512 * k + 512
  · rw [if_pos h, dif_pos (fun a => by
      match a with
      | 1 => exact h
      | 0 => exact ⟨Nat.zero_le _, by have := (y 0).isLt; show (y 0).val < 0 + 2048; change (y 0).val < 2048 at this; omega⟩)]
    have hk : (y 1).val / 512 = k := by omega
    unfold asmC
    rw [hk]
    refine congrArg (w k) (funext fun a => Fin.ext ?_)
    match a with
    | 1 => show (y 1).val - 512 * k = (y 1).val % 512; omega
    | 0 => show (y 0).val - 0 = (y 0).val; omega
  · rw [if_neg h, dif_neg (fun hh => h (hh 1))]

theorem window_off {s : Shape} (x : s.Idx → α) {off off' size : Fin s.rank → ℕ} (h : off = off') (inb) (inb') : window x off size inb = window x off' size inb' := by
  subst h; rfl
/-- A block of rows depends on those rows only. -/
theorem rS_congr (x x' : S2048x2048.Idx → α) (k : ℕ) (hk : k < 4) (h : ∀ y : S2048x2048.Idx, 512 * k ≤ (y 0).val → (y 0).val < 512 * k + 512 → x y = x' y) :
    rS x k = rS x' k := by
  funext z
  have hm : k % 4 = k := Nat.mod_eq_of_lt hk
  refine h _ ?_ ?_
  · show 512 * k ≤ 512 * (k % 4) + 1 * (z 0).val; omega
  · show 512 * (k % 4) + 1 * (z 0).val < 512 * k + 512
    have : (z 0).val < 512 := (z 0).isLt
    omega

/-! ## What the scratch matrices hold between points -/

/-- Before point `n`: the rows (or columns) already written of each of the five scratch matrices. -/
structure Inv (A₀ B₀ H A₁ B₁ D E : S2048x2048.Idx → α) (n : ℕ) (fa fb fh fd fe : S2048x2048.Idx → α) : Prop where
  a : ∀ y : S2048x2048.Idx, (y 0).val < 512 * n → fa y = if (y 0).val < 512 * (n - 4) then A₁ y else A₀ y
  b0 : n ≤ 8 → ∀ y : S2048x2048.Idx, (y 1).val < 512 * n → fb y = B₀ y
  b1 : ∀ y : S2048x2048.Idx, (y 0).val < 512 * (n - 8) → fb y = B₁ y
  h : ∀ y : S2048x2048.Idx, (y 0).val < 512 * n → fh y = H y
  d : ∀ y : S2048x2048.Idx, (y 0).val < 512 * (n - 12) → fd y = D y
  e : ∀ y : S2048x2048.Idx, (y 1).val < 512 * (n - 12) → fe y = E y

variable {A₀ B₀ H A₁ B₁ D E : S2048x2048.Idx → α} {n : ℕ} {fa fb fh fd fe : S2048x2048.Idx → α}

theorem lt0 (y : S2048x2048.Idx) : (y 0).val < 2048 := (y 0).isLt
theorem lt1 (y : S2048x2048.Idx) : (y 1).val < 2048 := (y 1).isLt

namespace Inv
theorem start : Inv A₀ B₀ H A₁ B₁ D E 0 fa fb fh fd fe := by
  constructor <;> intros <;> omega

variable (I : Inv A₀ B₀ H A₁ B₁ D E n fa fb fh fd fe)
include I

theorem allA (h : 8 ≤ n) : fa = A₁ := funext fun y => (I.a y (by have := lt0 y; omega)).trans (if_pos (by have := lt0 y; omega))
theorem allB0 (h : 4 ≤ n) (h' : n ≤ 8) : fb = B₀ := funext fun y => I.b0 h' y (by have := lt1 y; omega)
theorem allB1 (h : 12 ≤ n) : fb = B₁ := funext fun y => I.b1 y (by have := lt0 y; omega)
theorem allH (h : 4 ≤ n) : fh = H := funext fun y => I.h y (by have := lt0 y; omega)
theorem allD (h : 16 ≤ n) : fd = D := funext fun y => I.d y (by have := lt0 y; omega)
theorem allE (h : 16 ≤ n) : fe = E := funext fun y => I.e y (by have := lt1 y; omega)

theorem step1 (hn : n < 4) (ga gb gh : S2048x2048.Idx → α)
    (ha : ∀ y, ga y = if 512 * n ≤ (y 0).val ∧ (y 0).val < 512 * n + 512 then A₀ y else fa y)
    (hb : ∀ y, gb y = if 512 * n ≤ (y 1).val ∧ (y 1).val < 512 * n + 512 then B₀ y else fb y)
    (hh : ∀ y, gh y = if 512 * n ≤ (y 0).val ∧ (y 0).val < 512 * n + 512 then H y else fh y) :
    Inv A₀ B₀ H A₁ B₁ D E (n + 1) ga gb gh fd fe := by
  refine ⟨fun y hy => ?_, fun _ y hy => ?_, fun y hy => by omega, fun y hy => ?_, fun y hy => by omega, fun y hy => by omega⟩
  · rw [ha, if_neg (by omega : ¬ (y 0).val < 512 * (n + 1 - 4))]
    split
    · rfl
    · rw [I.a y (by omega), if_neg (by omega)]
  · rw [hb]
    split
    · rfl
    · exact I.b0 (by omega) y (by omega)
  · rw [hh]
    split
    · rfl
    · exact I.h y (by omega)

theorem step2 (hn : 4 ≤ n) (hn' : n < 8) (ga : S2048x2048.Idx → α)
    (ha : ∀ y, ga y = if 512 * (n - 4) ≤ (y 0).val ∧ (y 0).val < 512 * (n - 4) + 512 then A₁ y else fa y) :
    Inv A₀ B₀ H A₁ B₁ D E (n + 1) ga fb fh fd fe := by
  refine ⟨fun y hy => ?_, fun _ y hy => I.b0 (by omega) y (by have := lt1 y; omega), fun y hy => by omega,
    fun y hy => I.h y (by have := lt0 y; omega), fun y hy => by omega, fun y hy => by omega⟩
  rw [ha]
  split
  · rw [if_pos (by omega)]
  · rw [I.a y (by have := lt0 y; omega)]
    split
    · rw [if_pos (by omega)]
    · rw [if_neg (by omega)]

theorem step3 (hn : 8 ≤ n) (hn' : n < 12) (gb : S2048x2048.Idx → α)
    (hb : ∀ y, gb y = if 512 * (n - 8) ≤ (y 0).val ∧ (y 0).val < 512 * (n - 8) + 512 then B₁ y else fb y) :
    Inv A₀ B₀ H A₁ B₁ D E (n + 1) fa gb fh fd fe := by
  refine ⟨fun y hy => ?_, fun _ y hy => by omega, fun y hy => ?_,
    fun y hy => I.h y (by have := lt0 y; omega), fun y hy => by omega, fun y hy => by omega⟩
  · rw [I.allA hn, if_pos (by have := lt0 y; omega)]
  · rw [hb]
    split
    · rfl
    · exact I.b1 y (by omega)

theorem step4 (hn : 12 ≤ n) (hn' : n < 16) (gd ge : S2048x2048.Idx → α)
    (hd : ∀ y, gd y = if 512 * (n - 12) ≤ (y 0).val ∧ (y 0).val < 512 * (n - 12) + 512 then D y else fd y)
    (he : ∀ y, ge y = if 512 * (n - 12) ≤ (y 1).val ∧ (y 1).val < 512 * (n - 12) + 512 then E y else fe y) :
    Inv A₀ B₀ H A₁ B₁ D E (n + 1) fa fb fh gd ge := by
  refine ⟨fun y hy => ?_, fun _ y hy => by omega, fun y hy => ?_,
    fun y hy => I.h y (by have := lt0 y; omega), fun y hy => ?_, fun y hy => ?_⟩
  · rw [I.allA (by omega), if_pos (by have := lt0 y; omega)]
  · rw [I.allB1 hn]
  · rw [hd]
    split
    · rfl
    · exact I.d y (by omega)
  · rw [he]
    split
    · rfl
    · exact I.e y (by omega)

theorem step5 (hn : 16 ≤ n) : Inv A₀ B₀ H A₁ B₁ D E (n + 1) fa fb fh fd fe := by
  refine ⟨fun y hy => ?_, fun _ y hy => by omega, fun y hy => ?_, fun y hy => ?_, fun y hy => ?_, fun y hy => ?_⟩
  · rw [I.allA (by omega), if_pos (by have := lt0 y; omega)]
  · rw [I.allB1 (by omega)]
  · rw [I.allH (by omega)]
  · rw [I.allD hn]
  · rw [I.allE hn]
end Inv

/-! ## The arrays and the sums the points build -/

/-- The rows' selections, the same turned, and the first five. -/
def gA0 (T : FVec F S2048x64 .f32) (C : IVec S2048x1 32) (R : IVec S1x2048 32) : S2048x2048.Idx → Elt F .bf16 := asm fun k => selT (rT T k) T (rC C k) R
def gB0 (T : FVec F S2048x64 .f32) (C : IVec S2048x1 32) (R : IVec S1x2048 32) : S2048x2048.Idx → Elt F .bf16 := asmC fun k => selTt (rT T k) T (rC C k) R
def gH (T : FVec F S2048x64 .f32) (C : IVec S2048x1 32) (R : IVec S1x2048 32) : S2048x2048.Idx → Elt F .bf16 := asm fun k => halfT (rT T k) T (rC C k) R
/-- The mutual selection. -/
def gA1 (T : FVec F S2048x64 .f32) (C : IVec S2048x1 32) (R : IVec S1x2048 32) : S2048x2048.Idx → Elt F .bf16 :=
  asm fun k => k0_pay5 (rS (gA0 T C R) k) (rS (gB0 T C R) k)
/-- The shared-neighbour weights. -/
def gB1 (T : FVec F S2048x64 .f32) (C : IVec S2048x1 32) (R : IVec S1x2048 32) : S2048x2048.Idx → Elt F .bf16 :=
  asm fun k => k0_pay6 (rS (gA1 T C R) k) (gA1 T C R)
/-- Their means over the first five, and the same turned. -/
def gD (T : FVec F S2048x64 .f32) (C : IVec S2048x1 32) (R : IVec S1x2048 32) : S2048x2048.Idx → Elt F .bf16 :=
  asm fun k => k0_pay8 (rS (gH T C R) k) (gB1 T C R)
def gE (T : FVec F S2048x64 .f32) (C : IVec S2048x1 32) (R : IVec S1x2048 32) : S2048x2048.Idx → Elt F .bf16 :=
  asmC fun k => k0_pay9 (rS (gH T C R) k) (gB1 T C R)

/-- The first row of block `k`, as the body computes it. -/
abbrev rowW (k : ℕ) : BitVec 32 := Scalar.muli (Scalar.subi (BitVec.ofNat 32 (16 + k)) 16#32) 256#32
/-- The weights of block `k` of the last stage, and what the loss adds to them. -/
def tW (T : FVec F S2048x64 .f32) (C : IVec S2048x1 32) (R : IVec S1x2048 32) (k : ℕ) : FVec F S256x2048 .f32 :=
  wo (rowW k) (lT T k) T (lS (gD T C R) k) (lS (gE T C R) k)
def tW2 (T : FVec F S2048x64 .f32) (C : IVec S2048x1 32) (R : IVec S1x2048 32) (k : ℕ) : FVec F S256x2048 .f32 :=
  wo2 (rowW k) (lT T k) T (lS (gD T C R) k) (lS (gE T C R) k)
/-- The three outputs after `n` points of the last stage. -/
def acc5 (T : FVec F S2048x64 .f32) (C : IVec S2048x1 32) (R : IVec S1x2048 32) (Fm : FVec F S2048x64 .f32) : ℕ → FVec F S1x1 .f32
  | 0 => k0_pay42
  | n + 1 => k0_pay45 (lossF (tW T C R n) (tW2 T C R n) (lT Fm n) Fm) (acc5 T C R Fm n)
def acc6 (T : FVec F S2048x64 .f32) (C : IVec S2048x1 32) (R : IVec S1x2048 32) (G : FVec F S2048x64 .f32) : ℕ → FVec F S1x1 .f32
  | 0 => k0_pay43
  | n + 1 => k0_pay46 (lossG (tW T C R n) (tW2 T C R n) (lT G n) G) (acc6 T C R G n)
def acc7 (Fm G : FVec F S2048x64 .f32) : ℕ → FVec F S1x1 .f32
  | 0 => k0_pay44
  | n + 1 => klStep (lT Fm n) Fm (lT G n) G (acc7 Fm G n)

/-! ## The points -/

theorem conds : ∀ t : Fin grid0.N, (k0_cond1 (grid0.coords t) = 1#1 ↔ t.val < 4) ∧ (k0_cond2 (grid0.coords t) = 1#1 ↔ 4 ≤ t.val ∧ t.val < 8)
    ∧ (k0_cond3 (grid0.coords t) = 1#1 ↔ 8 ≤ t.val ∧ t.val < 12) ∧ (k0_cond4 (grid0.coords t) = 1#1 ↔ 12 ≤ t.val ∧ t.val < 16)
    ∧ (k0_cond5 (grid0.coords t) = 1#1 ↔ 16 ≤ t.val) ∧ (k0_cond6 (grid0.coords t) = 1#1 ↔ t.val = 16) := by decide +kernel
theorem coord : ∀ t : Fin grid0.N, ((grid0.coords t) 0).val = t.val := by decide +kernel
theorem off1 : ∀ t : Fin grid0.N, t.val < 4 → k0_off1 (grid0.coords t) = ![512 * (t.val % 4), 0] ∧ k0_off2 (grid0.coords t) = ![512 * (t.val % 4), 0]
    ∧ k0_off3 (grid0.coords t) = ![512 * t.val, 0] ∧ k0_off4 (grid0.coords t) = ![0, 512 * t.val] := by decide +kernel
theorem off2 : ∀ t : Fin grid0.N, 4 ≤ t.val ∧ t.val < 8 → k0_off5 (grid0.coords t) = ![512 * ((t.val - 4) % 4), 0] ∧ k0_off5 (grid0.coords t) = ![512 * (t.val - 4), 0] := by decide +kernel
theorem off3 : ∀ t : Fin grid0.N, 8 ≤ t.val ∧ t.val < 12 → k0_off6 (grid0.coords t) = ![512 * ((t.val - 8) % 4), 0] ∧ k0_off6 (grid0.coords t) = ![512 * (t.val - 8), 0] := by decide +kernel
theorem off4 : ∀ t : Fin grid0.N, 12 ≤ t.val ∧ t.val < 16 → k0_off7 (grid0.coords t) = ![512 * ((t.val - 12) % 4), 0] ∧ k0_off7 (grid0.coords t) = ![512 * (t.val - 12), 0]
    ∧ k0_off8 (grid0.coords t) = ![0, 512 * (t.val - 12)] := by decide +kernel
theorem off5 : ∀ t : Fin grid0.N, 16 ≤ t.val → k0_off9 (grid0.coords t) = ![256 * ((t.val - 16) % 8), 0] ∧ k0_off10 (grid0.coords t) = ![256 * ((t.val - 16) % 8), 0] := by decide +kernel

end Cert.KernelIdeal.Hand

end
-- ==== Proof.KI.Dats.lean ====
/-
  Hand-written, untrusted. The kernel's body run once per kind of grid point, at any float values: what each of the five
  VMEM scratch matrices and the three one-element outputs hold afterwards, as functions of what they held before.
-/
module

public import proofs.«01_k».proof.Proof.KI.Stage
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The matrices the body reads -/

/-- The first point. -/
abbrev p0 : Fin cfg0.N := ⟨0, by decide⟩

def tT (c : Dev nD) : S2048x64.Idx → Elt F .f32 := iblk m c 0 p0
def tC (c : Dev nD) : S2048x1.Idx → Elt F .i32 := iblk m c 1 p0
def tR (c : Dev nD) : S1x2048.Idx → Elt F .i32 := iblk m c 2 p0
def tF (c : Dev nD) : S2048x64.Idx → Elt F .f32 := iblk m c 3 p0
def tG (c : Dev nD) : S2048x64.Idx → Elt F .f32 := iblk m c 4 p0

/-! ## The proof data -/

/-- Between points: the scratch matrices at what is written of them so far. -/
def Φ (c : Dev nD) (n : ℕ) : sProp 𝕄 :=
  iprop(∃ fa fb fh fd fe : S2048x2048.Idx → Elt F .bf16, ⌜Inv (gA0 (tT m c) (tC m c) (tR m c)) (gB0 (tT m c) (tC m c) (tR m c)) (gH (tT m c) (tC m c) (tR m c)) (gA1 (tT m c) (tC m c) (tR m c)) (gB1 (tT m c) (tC m c) (tR m c)) (gD (tT m c) (tC m c) (tR m c)) (gE (tT m c) (tC m c) (tR m c)) n fa fb fh fd fe⌝
    ∗ owns (c : Thread nD τ) scA fullShare fa ∗ owns (c : Thread nD τ) scB fullShare fb ∗ owns (c : Thread nD τ) scH fullShare fh ∗ owns (c : Thread nD τ) scD fullShare fd ∗ owns (c : Thread nD τ) scE fullShare fe ∗ ∃ r, prngReg c r)

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => acc5 (tT m c) (tC m c) (tR m c) (tF m c) (t.val - 16 + 1)
    | 6 => acc6 (tT m c) (tC m c) (tR m c) (tG m c) (t.val - 16 + 1)
    | 7 => acc7 (tF m c) (tG m c) (t.val - 16 + 1)
  Φ n := Φ m c n.val
  q _ := fullShare
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = tT m c :=
  (before0_0_of m (dats m 0 c) (A_eq m c 0) (fun _ => rfl) t d).trans rfl
theorem after0 (c : Dev nD) (t : Fin cfg0.N) : (dats m 0 c).after 0 t = tT m c := rfl
theorem before1 (c : Dev nD) (t : Fin cfg0.N) (d) : (dats m 0 c).before 1 t d = tC m c :=
  (before0_1_of m (dats m 0 c) (A_eq m c 1) (fun _ => rfl) t d).trans rfl
theorem after1 (c : Dev nD) (t : Fin cfg0.N) : (dats m 0 c).after 1 t = tC m c := rfl
theorem before2 (c : Dev nD) (t : Fin cfg0.N) (d) : (dats m 0 c).before 2 t d = tR m c :=
  (before0_2_of m (dats m 0 c) (A_eq m c 2) (fun _ => rfl) t d).trans rfl
theorem after2 (c : Dev nD) (t : Fin cfg0.N) : (dats m 0 c).after 2 t = tR m c := rfl
theorem before3 (c : Dev nD) (t : Fin cfg0.N) (d) : (dats m 0 c).before 3 t d = tF m c :=
  (before0_3_of m (dats m 0 c) (A_eq m c 3) (fun _ => rfl) t d).trans rfl
theorem after3 (c : Dev nD) (t : Fin cfg0.N) : (dats m 0 c).after 3 t = tF m c := rfl
theorem before4 (c : Dev nD) (t : Fin cfg0.N) (d) : (dats m 0 c).before 4 t d = tG m c :=
  (before0_4_of m (dats m 0 c) (A_eq m c 4) (fun _ => rfl) t d).trans rfl
theorem after4 (c : Dev nD) (t : Fin cfg0.N) : (dats m 0 c).after 4 t = tG m c := rfl

/-- What a point hands back of output window 5: what it found before the last stage, what it leaves from there on. -/
def outP5 (c : Dev nD) (t : Fin cfg0.N) : sProp 𝕄 :=
  match decide (t.val < 16) with
  | true => iprop(∃ d, owns (c : Thread nD τ) (st0_5 t) fullShare ((dats m 0 c).before 5 t d))
  | false => owns (c : Thread nD τ) (st0_5 t) fullShare ((dats m 0 c).after 5 t)
theorem outP5_neg (c : Dev nD) (t : Fin cfg0.N) (h : t.val < 16) : outP5 m c t = iprop(∃ d, owns (c : Thread nD τ) (st0_5 t) fullShare ((dats m 0 c).before 5 t d)) := by
  unfold outP5; rw [decide_eq_true h]
theorem outP5_pos (c : Dev nD) (t : Fin cfg0.N) (h : 16 ≤ t.val) : outP5 m c t = owns (c : Thread nD τ) (st0_5 t) fullShare ((dats m 0 c).after 5 t) := by
  unfold outP5; rw [decide_eq_false (by omega)]
theorem idle5 : ∀ t : Fin cfg0.N, cfg0.idle 5 (cfg0.grid.coords t) = decide (t.val < 16) := by decide +kernel
theorem flushes5 (t : Fin cfg0.N) (h : t.val < 16) : (cfg0.win 5).flush t = false :=
  Bool.eq_false_iff.mpr fun hf => by have := (flush0_5 t).mp hf; omega
theorem idle'5 (t : Fin cfg0.N) : idle0 5 (grid0.coords t) = decide (t.val < 16) := idle5 t
theorem flushes'5 (t : Fin cfg0.N) (h : t.val < 16) : (win0 5).flush t = false := flushes5 t h
theorem before5 (c : Dev nD) (t : Fin cfg0.N) (h : 16 < t.val) (d) : (dats m 0 c).before 5 t d = acc5 (tT m c) (tC m c) (tR m c) (tF m c) (t.val - 16) := by
  rw [Dat.before_of_pos _ 5 t (by omega) rfl, if_neg (fun hf => by have := (flush0_5 _).mp hf; have := t.isLt; have e : cfg0.N = 24 := N_0; simp only at *; omega)]
  unfold Dat.left
  rw [idle5, decide_eq_false (by show ¬ t.val - 1 < 16; omega)]
  show acc5 (tT m c) (tC m c) (tR m c) (tF m c) (t.val - 1 - 16 + 1) = _
  rw [show t.val - 1 - 16 + 1 = t.val - 16 by omega]

/-- What a point hands back of output window 6: what it found before the last stage, what it leaves from there on. -/
def outP6 (c : Dev nD) (t : Fin cfg0.N) : sProp 𝕄 :=
  match decide (t.val < 16) with
  | true => iprop(∃ d, owns (c : Thread nD τ) (st0_6 t) fullShare ((dats m 0 c).before 6 t d))
  | false => owns (c : Thread nD τ) (st0_6 t) fullShare ((dats m 0 c).after 6 t)
theorem outP6_neg (c : Dev nD) (t : Fin cfg0.N) (h : t.val < 16) : outP6 m c t = iprop(∃ d, owns (c : Thread nD τ) (st0_6 t) fullShare ((dats m 0 c).before 6 t d)) := by
  unfold outP6; rw [decide_eq_true h]
theorem outP6_pos (c : Dev nD) (t : Fin cfg0.N) (h : 16 ≤ t.val) : outP6 m c t = owns (c : Thread nD τ) (st0_6 t) fullShare ((dats m 0 c).after 6 t) := by
  unfold outP6; rw [decide_eq_false (by omega)]
theorem idle6 : ∀ t : Fin cfg0.N, cfg0.idle 6 (cfg0.grid.coords t) = decide (t.val < 16) := by decide +kernel
theorem flushes6 (t : Fin cfg0.N) (h : t.val < 16) : (cfg0.win 6).flush t = false :=
  Bool.eq_false_iff.mpr fun hf => by have := (flush0_6 t).mp hf; omega
theorem idle'6 (t : Fin cfg0.N) : idle0 6 (grid0.coords t) = decide (t.val < 16) := idle6 t
theorem flushes'6 (t : Fin cfg0.N) (h : t.val < 16) : (win0 6).flush t = false := flushes6 t h
theorem before6 (c : Dev nD) (t : Fin cfg0.N) (h : 16 < t.val) (d) : (dats m 0 c).before 6 t d = acc6 (tT m c) (tC m c) (tR m c) (tG m c) (t.val - 16) := by
  rw [Dat.before_of_pos _ 6 t (by omega) rfl, if_neg (fun hf => by have := (flush0_6 _).mp hf; have := t.isLt; have e : cfg0.N = 24 := N_0; simp only at *; omega)]
  unfold Dat.left
  rw [idle6, decide_eq_false (by show ¬ t.val - 1 < 16; omega)]
  show acc6 (tT m c) (tC m c) (tR m c) (tG m c) (t.val - 1 - 16 + 1) = _
  rw [show t.val - 1 - 16 + 1 = t.val - 16 by omega]

/-- What a point hands back of output window 7: what it found before the last stage, what it leaves from there on. -/
def outP7 (c : Dev nD) (t : Fin cfg0.N) : sProp 𝕄 :=
  match decide (t.val < 16) with
  | true => iprop(∃ d, owns (c : Thread nD τ) (st0_7 t) fullShare ((dats m 0 c).before 7 t d))
  | false => owns (c : Thread nD τ) (st0_7 t) fullShare ((dats m 0 c).after 7 t)
theorem outP7_neg (c : Dev nD) (t : Fin cfg0.N) (h : t.val < 16) : outP7 m c t = iprop(∃ d, owns (c : Thread nD τ) (st0_7 t) fullShare ((dats m 0 c).before 7 t d)) := by
  unfold outP7; rw [decide_eq_true h]
theorem outP7_pos (c : Dev nD) (t : Fin cfg0.N) (h : 16 ≤ t.val) : outP7 m c t = owns (c : Thread nD τ) (st0_7 t) fullShare ((dats m 0 c).after 7 t) := by
  unfold outP7; rw [decide_eq_false (by omega)]
theorem idle7 : ∀ t : Fin cfg0.N, cfg0.idle 7 (cfg0.grid.coords t) = decide (t.val < 16) := by decide +kernel
theorem flushes7 (t : Fin cfg0.N) (h : t.val < 16) : (cfg0.win 7).flush t = false :=
  Bool.eq_false_iff.mpr fun hf => by have := (flush0_7 t).mp hf; omega
theorem idle'7 (t : Fin cfg0.N) : idle0 7 (grid0.coords t) = decide (t.val < 16) := idle7 t
theorem flushes'7 (t : Fin cfg0.N) (h : t.val < 16) : (win0 7).flush t = false := flushes7 t h
theorem before7 (c : Dev nD) (t : Fin cfg0.N) (h : 16 < t.val) (d) : (dats m 0 c).before 7 t d = acc7 (tF m c) (tG m c) (t.val - 16) := by
  rw [Dat.before_of_pos _ 7 t (by omega) rfl, if_neg (fun hf => by have := (flush0_7 _).mp hf; have := t.isLt; have e : cfg0.N = 24 := N_0; simp only at *; omega)]
  unfold Dat.left
  rw [idle7, decide_eq_false (by show ¬ t.val - 1 < 16; omega)]
  show acc7 (tF m c) (tG m c) (t.val - 1 - 16 + 1) = _
  rw [show t.val - 1 - 16 + 1 = t.val - 16 by omega]

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ outP5 m c t ∗ outP6 m c t ∗ outP7 m c t)

end Cert.KernelIdeal.Hand

end
-- ==== Proof.KI.Run1.lean ====
/-
  Hand-written, untrusted. The kernel's body run once per kind of grid point, at any float values: what each of the five
  VMEM scratch matrices and the three one-element outputs hold afterwards, as functions of what they held before.
-/
module

public import proofs.«01_k».proof.Proof.KI.Body
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (c : Dev nD) (i : grid0.Coords) (arg1 : Memref sig .tc .vmem S2048x64 .f32) (harg1 : arg1.IsWhole) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)

set_option maxHeartbeats 4000000 in
/-- A first-stage point: one block of rows selected. -/
theorem run1 (c1 : k0_cond1 i = 1#1) (c2 : ¬ k0_cond2 i = 1#1) (c3 : ¬ k0_cond3 i = 1#1) (c4 : ¬ k0_cond4 i = 1#1) (c5 : ¬ k0_cond5 i = 1#1)
    (T : S2048x64.Idx → Elt F .f32) (C : S2048x1.Idx → Elt F .i32) (Rw : S1x2048.Idx → Elt F .i32) (fa fb fh : S2048x2048.Idx → Elt F .bf16) (K : PUnit → sProp 𝕄) :
    iprop(owns (c : Thread nD τ) arg1 fullShare T ∗ owns (c : Thread nD τ) arg2 fullShare C ∗ owns (c : Thread nD τ) arg3 fullShare Rw ∗ owns (c : Thread nD τ) scA fullShare fa ∗ owns (c : Thread nD τ) scB fullShare fb ∗ owns (c : Thread nD τ) scH fullShare fh
        ∗ (iprop(owns (c : Thread nD τ) arg1 fullShare T ∗ owns (c : Thread nD τ) arg2 fullShare C ∗ owns (c : Thread nD τ) arg3 fullShare Rw ∗ owns (c : Thread nD τ) scA fullShare (put fa (k0_off3 i) S512x2048.size (selT (window T (k0_off1 i) S512x64.size (k0_off1_inb i c1)) T (window C (k0_off2 i) S512x1.size (k0_off2_inb i c1)) Rw)) ∗ owns (c : Thread nD τ) scB fullShare (put fb (k0_off4 i) S2048x512.size (selTt (window T (k0_off1 i) S512x64.size (k0_off1_inb i c1)) T (window C (k0_off2 i) S512x1.size (k0_off2_inb i c1)) Rw)) ∗ owns (c : Thread nD τ) scH fullShare (put fh (k0_off3 i) S512x2048.size (halfT (window T (k0_off1 i) S512x64.size (k0_off1_inb i c1)) T (window C (k0_off2 i) S512x1.size (k0_off2_inb i c1)) Rw))) -∗ K ⟨⟩))
      ⊢ wp frame (wpE (defs₀ (F := F)) Variants.none c none) Set.univ
          (body i arg1 harg1 arg2 harg2 arg3 harg3 arg4 harg4 arg5 harg5 arg6 harg6 arg7 harg7 arg8 harg8) K := by
  unfold body
  simp only [cc0__mega_eq_skeleton]; unfold cc0__mega_skel
  simp only [dif_pos c1, dif_neg c2, dif_neg c3, dif_neg c4, dif_neg c5]
  simp only [k0_part1_eq_skeleton, k0_part2_eq_skeleton, k0_part3_eq_skeleton, k0_part4_eq_skeleton]
  unfold k0_part1_skel k0_part2_skel k0_part3_skel k0_part4_skel
  unfold owns
  iintro ⟨⟨%f1, %e1, H1⟩, ⟨%f2, %e2, H2⟩, ⟨%f3, %e3, H3⟩, ⟨%fA, %eA, HA⟩, ⟨%fB, %eB, HB⟩, ⟨%fH, %eH, HH⟩, Hk⟩
  subst e1; subst e2; subst e3; subst eA; subst eB; subst eH
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [HA]
  · iexists _; isplitr; swap; · iexact HA
    ipureintro; refine (View.read_writes_cons_put _ _ _ _ [] rfl).trans (congrArg (put _ _ _) ?_); refine Eq.trans ?_ (congr2 (fun (T : S2048x64.Idx → Elt F .f32) (R : S1x2048.Idx → Elt F .i32) => selT _ T _ R) (View.readAt_full (s := S2048x64) arg1.view f1 inb_S2048x64_S2048x64_0_0) (View.readAt_full (s := S1x2048) arg3.view f3 inb_S1x2048_S1x2048_0_0)); simp only [w0, q0, w1, h1, q1, w2, q2, selT, selTt, halfT, readAt_box]; rfl
  isplitl [HB]
  · iexists _; isplitr; swap; · iexact HB
    ipureintro; refine (View.read_writes_cons_put _ _ _ _ [] rfl).trans (congrArg (put _ _ _) ?_); refine Eq.trans ?_ (congr2 (fun (T : S2048x64.Idx → Elt F .f32) (R : S1x2048.Idx → Elt F .i32) => selTt _ T _ R) (View.readAt_full (s := S2048x64) arg1.view f1 inb_S2048x64_S2048x64_0_0) (View.readAt_full (s := S1x2048) arg3.view f3 inb_S1x2048_S1x2048_0_0)); simp only [w0, q0, w1, h1, q1, w2, q2, selT, selTt, halfT, readAt_box]; rfl
  iexists _; isplitr; swap; · iexact HH
  ipureintro; refine (View.read_writes_cons_put _ _ _ _ [] rfl).trans (congrArg (put _ _ _) ?_); refine Eq.trans ?_ (congr2 (fun (T : S2048x64.Idx → Elt F .f32) (R : S1x2048.Idx → Elt F .i32) => halfT _ T _ R) (View.readAt_full (s := S2048x64) arg1.view f1 inb_S2048x64_S2048x64_0_0) (View.readAt_full (s := S1x2048) arg3.view f3 inb_S1x2048_S1x2048_0_0)); simp only [w0, q0, w1, h1, q1, w2, q2, selT, selTt, halfT, readAt_box]; rfl

end Cert.KernelIdeal.Hand

end
-- ==== Proof.KI.Sound1.lean ====
/-
  Hand-written, untrusted. The kernel's body run once per kind of grid point, at any float values: what each of the five
  VMEM scratch matrices and the three one-element outputs hold afterwards, as functions of what they held before.
-/
module

public import proofs.«01_k».proof.Proof.KI.Dats
public import proofs.«01_k».proof.Proof.KI.Run1
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 4000000 in
/-- A first-stage point. -/
theorem sound1 (c : Dev nD) (t : Fin cfg0.N) (ht : t.val < 4) :
    bodyPre m c t ⊢ wp frame (wpE (defs₀ (F := F)) Variants.none c none) Set.univ (bodyAt0 t) (fun _ => bodyPost m c t) := by
  have c1 : k0_cond1 (grid0.coords t) = 1#1 := (conds t).1.mpr (by omega)
  have c2 : ¬ k0_cond2 (grid0.coords t) = 1#1 := fun h => by have := (conds t).2.1.mp h; omega
  have c3 : ¬ k0_cond3 (grid0.coords t) = 1#1 := fun h => by have := (conds t).2.2.1.mp h; omega
  have c4 : ¬ k0_cond4 (grid0.coords t) = 1#1 := fun h => by have := (conds t).2.2.2.1.mp h; omega
  have c5 : ¬ k0_cond5 (grid0.coords t) = 1#1 := fun h => by have := (conds t).2.2.2.2.1.mp h; omega
  unfold bodyPre bodyPost
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  rw [outP5_neg m c t (by omega), outP6_neg m c t (by omega), outP7_neg m c t (by omega)]
  simp only [before0, before1, before2, before3, before4]
  iintro ⟨⟨%fa, %fb, %fh, %fd, %fe, %I, HA, HB, HH, HD, HE, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  have eA := I.step1 ht _ _ _ (fun y => put_asm fa (fun k => selT (rT (tT m c) k) (tT m c) (rC (tC m c) k) (tR m c)) t.val y)
    (fun y => put_asmC fb (fun k => selTt (rT (tT m c) k) (tT m c) (rC (tC m c) k) (tR m c)) t.val y)
    (fun y => put_asm fh (fun k => halfT (rT (tT m c) k) (tT m c) (rC (tC m c) k) (tR m c)) t.val y)
  obtain ⟨o1, o2, o3, o4⟩ := off1 t ht
  have w1 : window (tT m c) (k0_off1 (grid0.coords t)) S512x64.size (k0_off1_inb (grid0.coords t) c1) = rT (tT m c) t.val := window_off _ o1 _ _
  have w2 : window (tC m c) (k0_off2 (grid0.coords t)) S512x1.size (k0_off2_inb (grid0.coords t) c1) = rC (tC m c) t.val := window_off _ o2 _ _
  rw [← w1, ← w2, ← o3, ← o4] at eA
  iapply (run1 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) c1 c2 c3 c4 c5 (tT m c) (tC m c) (tR m c) fa fb fh _)
  isplitl [H0]; · iexact H0
  isplitl [H1]; · iexact H1
  isplitl [H2]; · iexact H2
  isplitl [HA]; · iexact HA
  isplitl [HB]; · iexact HB
  isplitl [HH]; · iexact HH
  iintro ⟨H0, H1, H2, HA, HB, HH⟩
  isplitl [HA HB HH HD HE Hg]
  · iexists _, _, _, _, _
    isplitr
    · ipureintro; exact eA
    isplitl [HA]; · iexact HA
    isplitl [HB]; · iexact HB
    isplitl [HH]; · iexact HH
    isplitl [HD]; · iexact HD
    isplitl [HE]; · iexact HE
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

end Cert.KernelIdeal.Hand

end
-- ==== Proof.KI.Run2.lean ====
/-
  Hand-written, untrusted. The kernel's body run once per kind of grid point, at any float values: what each of the five
  VMEM scratch matrices and the three one-element outputs hold afterwards, as functions of what they held before.
-/
module

public import proofs.«01_k».proof.Proof.KI.Body
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (c : Dev nD) (i : grid0.Coords) (arg1 : Memref sig .tc .vmem S2048x64 .f32) (harg1 : arg1.IsWhole) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)

set_option maxHeartbeats 4000000 in
/-- A second-stage point: one block of rows of the selection kept where it is mutual. -/
theorem run2 (c1 : ¬ k0_cond1 i = 1#1) (c2 : k0_cond2 i = 1#1) (c3 : ¬ k0_cond3 i = 1#1) (c4 : ¬ k0_cond4 i = 1#1) (c5 : ¬ k0_cond5 i = 1#1)
    (fa fb : S2048x2048.Idx → Elt F .bf16) (K : PUnit → sProp 𝕄) :
    iprop(owns (c : Thread nD τ) scA fullShare fa ∗ owns (c : Thread nD τ) scB fullShare fb
        ∗ (iprop(owns (c : Thread nD τ) scA fullShare (put fa (k0_off5 i) S512x2048.size (k0_pay5 (window fa (k0_off5 i) S512x2048.size (k0_off5_inb i c2)) (window fb (k0_off5 i) S512x2048.size (k0_off5_inb i c2)))) ∗ owns (c : Thread nD τ) scB fullShare fb) -∗ K ⟨⟩))
      ⊢ wp frame (wpE (defs₀ (F := F)) Variants.none c none) Set.univ
          (body i arg1 harg1 arg2 harg2 arg3 harg3 arg4 harg4 arg5 harg5 arg6 harg6 arg7 harg7 arg8 harg8) K := by
  unfold body
  simp only [cc0__mega_eq_skeleton]; unfold cc0__mega_skel
  simp only [dif_neg c1, dif_pos c2, dif_neg c3, dif_neg c4, dif_neg c5]
  unfold owns
  iintro ⟨⟨%fA, %eA, HA⟩, ⟨%fB, %eB, HB⟩, Hk⟩
  subst eA; subst eB
  sl_exec
  sl_step
  iapply Hk
  isplitl [HA]
  · iexists _; isplitr; swap; · iexact HA
    ipureintro; refine (View.read_writes_cons_put _ _ _ _ [] rfl).trans (congrArg (put _ _ _) ?_); rfl
  iexists _; isplitr; swap; · iexact HB
  ipureintro; rfl

end Cert.KernelIdeal.Hand

end
-- ==== Proof.KI.Sound2.lean ====
/-
  Hand-written, untrusted. The kernel's body run once per kind of grid point, at any float values: what each of the five
  VMEM scratch matrices and the three one-element outputs hold afterwards, as functions of what they held before.
-/
module

public import proofs.«01_k».proof.Proof.KI.Dats
public import proofs.«01_k».proof.Proof.KI.Run2
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 4000000 in
/-- A second-stage point. -/
theorem sound2 (c : Dev nD) (t : Fin cfg0.N) (ht : 4 ≤ t.val ∧ t.val < 8) :
    bodyPre m c t ⊢ wp frame (wpE (defs₀ (F := F)) Variants.none c none) Set.univ (bodyAt0 t) (fun _ => bodyPost m c t) := by
  have c1 : ¬ k0_cond1 (grid0.coords t) = 1#1 := fun h => by have := (conds t).1.mp h; omega
  have c2 : k0_cond2 (grid0.coords t) = 1#1 := (conds t).2.1.mpr (by omega)
  have c3 : ¬ k0_cond3 (grid0.coords t) = 1#1 := fun h => by have := (conds t).2.2.1.mp h; omega
  have c4 : ¬ k0_cond4 (grid0.coords t) = 1#1 := fun h => by have := (conds t).2.2.2.1.mp h; omega
  have c5 : ¬ k0_cond5 (grid0.coords t) = 1#1 := fun h => by have := (conds t).2.2.2.2.1.mp h; omega
  unfold bodyPre bodyPost
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  rw [outP5_neg m c t (by omega), outP6_neg m c t (by omega), outP7_neg m c t (by omega)]
  simp only [before0, before1, before2, before3, before4]
  iintro ⟨⟨%fa, %fb, %fh, %fd, %fe, %I, HA, HB, HH, HD, HE, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  have e0 : rS (gA0 (tT m c) (tC m c) (tR m c)) (t.val - 4) = rS fa (t.val - 4) := rS_congr _ _ _ (by omega) fun y hy _ =>
    ((I.a y (by have := lt0 y; omega)).trans (if_neg (by omega))).symm
  have eA := I.step2 ht.1 ht.2 _ (fun y => put_asm fa (fun k => k0_pay5 (rS (gA0 (tT m c) (tC m c) (tR m c)) k) (rS (gB0 (tT m c) (tC m c) (tR m c)) k)) (t.val - 4) y)
  obtain ⟨o1, o2⟩ := off2 t ht
  have w1 : window fa (k0_off5 (grid0.coords t)) S512x2048.size (k0_off5_inb (grid0.coords t) c2) = rS fa (t.val - 4) := window_off _ o1 _ _
  have w2 : window fb (k0_off5 (grid0.coords t)) S512x2048.size (k0_off5_inb (grid0.coords t) c2) = rS fb (t.val - 4) := window_off _ o1 _ _
  beta_reduce at eA
  rw [show k0_pay5 (rS (gA0 (tT m c) (tC m c) (tR m c)) (t.val - 4)) (rS (gB0 (tT m c) (tC m c) (tR m c)) (t.val - 4)) = k0_pay5 (rS fa (t.val - 4)) (rS fb (t.val - 4)) by rw [e0, I.allB0 ht.1 (by omega)],
    ← w1, ← w2, ← o2] at eA
  iapply (run2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) c1 c2 c3 c4 c5 fa fb _)
  isplitl [HA]; · iexact HA
  isplitl [HB]; · iexact HB
  iintro ⟨HA, HB⟩
  isplitl [HA HB HH HD HE Hg]
  · iexists _, _, _, _, _
    isplitr
    · ipureintro; exact eA
    isplitl [HA]; · iexact HA
    isplitl [HB]; · iexact HB
    isplitl [HH]; · iexact HH
    isplitl [HD]; · iexact HD
    isplitl [HE]; · iexact HE
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

end Cert.KernelIdeal.Hand

end
-- ==== Proof.KI.Run3.lean ====
/-
  Hand-written, untrusted. The kernel's body run once per kind of grid point, at any float values: what each of the five
  VMEM scratch matrices and the three one-element outputs hold afterwards, as functions of what they held before.
-/
module

public import proofs.«01_k».proof.Proof.KI.Body
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (c : Dev nD) (i : grid0.Coords) (arg1 : Memref sig .tc .vmem S2048x64 .f32) (harg1 : arg1.IsWhole) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)

set_option maxHeartbeats 4000000 in
/-- A third-stage point: one block of rows of the shared-neighbour weights. -/
theorem run3 (c1 : ¬ k0_cond1 i = 1#1) (c2 : ¬ k0_cond2 i = 1#1) (c3 : k0_cond3 i = 1#1) (c4 : ¬ k0_cond4 i = 1#1) (c5 : ¬ k0_cond5 i = 1#1)
    (fa fb : S2048x2048.Idx → Elt F .bf16) (K : PUnit → sProp 𝕄) :
    iprop(owns (c : Thread nD τ) scA fullShare fa ∗ owns (c : Thread nD τ) scB fullShare fb
        ∗ (iprop(owns (c : Thread nD τ) scA fullShare fa ∗ owns (c : Thread nD τ) scB fullShare (put fb (k0_off6 i) S512x2048.size (k0_pay6 (window fa (k0_off6 i) S512x2048.size (k0_off6_inb i c3)) fa))) -∗ K ⟨⟩))
      ⊢ wp frame (wpE (defs₀ (F := F)) Variants.none c none) Set.univ
          (body i arg1 harg1 arg2 harg2 arg3 harg3 arg4 harg4 arg5 harg5 arg6 harg6 arg7 harg7 arg8 harg8) K := by
  unfold body
  simp only [cc0__mega_eq_skeleton]; unfold cc0__mega_skel
  simp only [dif_neg c1, dif_neg c2, dif_pos c3, dif_neg c4, dif_neg c5]
  unfold owns
  iintro ⟨⟨%fA, %eA, HA⟩, ⟨%fB, %eB, HB⟩, Hk⟩
  subst eA; subst eB
  sl_exec
  sl_step
  iapply Hk
  isplitl [HA]
  · iexists _; isplitr; swap; · iexact HA
    ipureintro; rfl
  iexists _; isplitr; swap; · iexact HB
  ipureintro; refine (View.read_writes_cons_put _ _ _ _ [] rfl).trans (congrArg (put _ _ _) ?_); refine Eq.trans ?_ (congrArg (k0_pay6 _) (View.readAt_full (s := S2048x2048) scA.view fA inb_S2048x2048_S2048x2048_0_0)); rfl

end Cert.KernelIdeal.Hand

end
-- ==== Proof.KI.Sound3.lean ====
/-
  Hand-written, untrusted. The kernel's body run once per kind of grid point, at any float values: what each of the five
  VMEM scratch matrices and the three one-element outputs hold afterwards, as functions of what they held before.
-/
module

public import proofs.«01_k».proof.Proof.KI.Dats
public import proofs.«01_k».proof.Proof.KI.Run3
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 4000000 in
/-- A third-stage point. -/
theorem sound3 (c : Dev nD) (t : Fin cfg0.N) (ht : 8 ≤ t.val ∧ t.val < 12) :
    bodyPre m c t ⊢ wp frame (wpE (defs₀ (F := F)) Variants.none c none) Set.univ (bodyAt0 t) (fun _ => bodyPost m c t) := by
  have c1 : ¬ k0_cond1 (grid0.coords t) = 1#1 := fun h => by have := (conds t).1.mp h; omega
  have c2 : ¬ k0_cond2 (grid0.coords t) = 1#1 := fun h => by have := (conds t).2.1.mp h; omega
  have c3 : k0_cond3 (grid0.coords t) = 1#1 := (conds t).2.2.1.mpr (by omega)
  have c4 : ¬ k0_cond4 (grid0.coords t) = 1#1 := fun h => by have := (conds t).2.2.2.1.mp h; omega
  have c5 : ¬ k0_cond5 (grid0.coords t) = 1#1 := fun h => by have := (conds t).2.2.2.2.1.mp h; omega
  unfold bodyPre bodyPost
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  rw [outP5_neg m c t (by omega), outP6_neg m c t (by omega), outP7_neg m c t (by omega)]
  simp only [before0, before1, before2, before3, before4]
  iintro ⟨⟨%fa, %fb, %fh, %fd, %fe, %I, HA, HB, HH, HD, HE, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  have eA := I.step3 ht.1 ht.2 _ (fun y => put_asm fb (fun k => k0_pay6 (rS (gA1 (tT m c) (tC m c) (tR m c)) k) (gA1 (tT m c) (tC m c) (tR m c))) (t.val - 8) y)
  obtain ⟨o1, o2⟩ := off3 t ht
  have w1 : window fa (k0_off6 (grid0.coords t)) S512x2048.size (k0_off6_inb (grid0.coords t) c3) = rS fa (t.val - 8) := window_off _ o1 _ _
  beta_reduce at eA
  rw [show k0_pay6 (rS (gA1 (tT m c) (tC m c) (tR m c)) (t.val - 8)) (gA1 (tT m c) (tC m c) (tR m c)) = k0_pay6 (rS fa (t.val - 8)) fa by rw [I.allA ht.1], ← w1, ← o2] at eA
  iapply (run3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) c1 c2 c3 c4 c5 fa fb _)
  isplitl [HA]; · iexact HA
  isplitl [HB]; · iexact HB
  iintro ⟨HA, HB⟩
  isplitl [HA HB HH HD HE Hg]
  · iexists _, _, _, _, _
    isplitr
    · ipureintro; exact eA
    isplitl [HA]; · iexact HA
    isplitl [HB]; · iexact HB
    isplitl [HH]; · iexact HH
    isplitl [HD]; · iexact HD
    isplitl [HE]; · iexact HE
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

end Cert.KernelIdeal.Hand

end
-- ==== Proof.KI.Run4.lean ====
/-
  Hand-written, untrusted. The kernel's body run once per kind of grid point, at any float values: what each of the five
  VMEM scratch matrices and the three one-element outputs hold afterwards, as functions of what they held before.
-/
module

public import proofs.«01_k».proof.Proof.KI.Body
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (c : Dev nD) (i : grid0.Coords) (arg1 : Memref sig .tc .vmem S2048x64 .f32) (harg1 : arg1.IsWhole) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)

set_option maxHeartbeats 4000000 in
/-- A fourth-stage point: one block of rows of the averaged weights, and the same turned. -/
theorem run4 (c1 : ¬ k0_cond1 i = 1#1) (c2 : ¬ k0_cond2 i = 1#1) (c3 : ¬ k0_cond3 i = 1#1) (c4 : k0_cond4 i = 1#1) (c5 : ¬ k0_cond5 i = 1#1)
    (fb fh fd fe : S2048x2048.Idx → Elt F .bf16) (K : PUnit → sProp 𝕄) :
    iprop(owns (c : Thread nD τ) scB fullShare fb ∗ owns (c : Thread nD τ) scH fullShare fh ∗ owns (c : Thread nD τ) scD fullShare fd ∗ owns (c : Thread nD τ) scE fullShare fe
        ∗ (iprop(owns (c : Thread nD τ) scB fullShare fb ∗ owns (c : Thread nD τ) scH fullShare fh ∗ owns (c : Thread nD τ) scD fullShare (put fd (k0_off7 i) S512x2048.size (k0_pay8 (window fh (k0_off7 i) S512x2048.size (k0_off7_inb i c4)) fb)) ∗ owns (c : Thread nD τ) scE fullShare (put fe (k0_off8 i) S2048x512.size (k0_pay9 (window fh (k0_off7 i) S512x2048.size (k0_off7_inb i c4)) fb))) -∗ K ⟨⟩))
      ⊢ wp frame (wpE (defs₀ (F := F)) Variants.none c none) Set.univ
          (body i arg1 harg1 arg2 harg2 arg3 harg3 arg4 harg4 arg5 harg5 arg6 harg6 arg7 harg7 arg8 harg8) K := by
  unfold body
  simp only [cc0__mega_eq_skeleton]; unfold cc0__mega_skel
  simp only [dif_neg c1, dif_neg c2, dif_neg c3, dif_pos c4, dif_neg c5]
  unfold owns
  iintro ⟨⟨%fB, %eB, HB⟩, ⟨%fH, %eH, HH⟩, ⟨%fD, %eD, HD⟩, ⟨%fE, %eE, HE⟩, Hk⟩
  subst eB; subst eH; subst eD; subst eE
  sl_exec
  sl_step
  iapply Hk
  isplitl [HB]
  · iexists _; isplitr; swap; · iexact HB
    ipureintro; rfl
  isplitl [HH]
  · iexists _; isplitr; swap; · iexact HH
    ipureintro; rfl
  isplitl [HD]
  · iexists _; isplitr; swap; · iexact HD
    ipureintro; refine (View.read_writes_cons_put _ _ _ _ [] rfl).trans (congrArg (put _ _ _) ?_); refine Eq.trans ?_ (congrArg (k0_pay8 _) (View.readAt_full (s := S2048x2048) scB.view fB inb_S2048x2048_S2048x2048_0_0)); rfl
  iexists _; isplitr; swap; · iexact HE
  ipureintro; refine (View.read_writes_cons_put _ _ _ _ [] rfl).trans (congrArg (put _ _ _) ?_); refine Eq.trans ?_ (congrArg (k0_pay9 _) (View.readAt_full (s := S2048x2048) scB.view fB inb_S2048x2048_S2048x2048_0_0)); rfl

end Cert.KernelIdeal.Hand

end
-- ==== Proof.KI.Sound4.lean ====
/-
  Hand-written, untrusted. The kernel's body run once per kind of grid point, at any float values: what each of the five
  VMEM scratch matrices and the three one-element outputs hold afterwards, as functions of what they held before.
-/
module

public import proofs.«01_k».proof.Proof.KI.Dats
public import proofs.«01_k».proof.Proof.KI.Run4
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 4000000 in
/-- A fourth-stage point. -/
theorem sound4 (c : Dev nD) (t : Fin cfg0.N) (ht : 12 ≤ t.val ∧ t.val < 16) :
    bodyPre m c t ⊢ wp frame (wpE (defs₀ (F := F)) Variants.none c none) Set.univ (bodyAt0 t) (fun _ => bodyPost m c t) := by
  have c1 : ¬ k0_cond1 (grid0.coords t) = 1#1 := fun h => by have := (conds t).1.mp h; omega
  have c2 : ¬ k0_cond2 (grid0.coords t) = 1#1 := fun h => by have := (conds t).2.1.mp h; omega
  have c3 : ¬ k0_cond3 (grid0.coords t) = 1#1 := fun h => by have := (conds t).2.2.1.mp h; omega
  have c4 : k0_cond4 (grid0.coords t) = 1#1 := (conds t).2.2.2.1.mpr (by omega)
  have c5 : ¬ k0_cond5 (grid0.coords t) = 1#1 := fun h => by have := (conds t).2.2.2.2.1.mp h; omega
  unfold bodyPre bodyPost
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  rw [outP5_neg m c t (by omega), outP6_neg m c t (by omega), outP7_neg m c t (by omega)]
  simp only [before0, before1, before2, before3, before4]
  iintro ⟨⟨%fa, %fb, %fh, %fd, %fe, %I, HA, HB, HH, HD, HE, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  have eA := I.step4 ht.1 ht.2 _ _ (fun y => put_asm fd (fun k => k0_pay8 (rS (gH (tT m c) (tC m c) (tR m c)) k) (gB1 (tT m c) (tC m c) (tR m c))) (t.val - 12) y)
    (fun y => put_asmC fe (fun k => k0_pay9 (rS (gH (tT m c) (tC m c) (tR m c)) k) (gB1 (tT m c) (tC m c) (tR m c))) (t.val - 12) y)
  obtain ⟨o1, o2, o3⟩ := off4 t ht
  have w1 : window fh (k0_off7 (grid0.coords t)) S512x2048.size (k0_off7_inb (grid0.coords t) c4) = rS fh (t.val - 12) := window_off _ o1 _ _
  beta_reduce at eA
  rw [show k0_pay8 (rS (gH (tT m c) (tC m c) (tR m c)) (t.val - 12)) (gB1 (tT m c) (tC m c) (tR m c)) = k0_pay8 (rS fh (t.val - 12)) fb by rw [I.allB1 ht.1, I.allH (by omega)],
    show k0_pay9 (rS (gH (tT m c) (tC m c) (tR m c)) (t.val - 12)) (gB1 (tT m c) (tC m c) (tR m c)) = k0_pay9 (rS fh (t.val - 12)) fb by rw [I.allB1 ht.1, I.allH (by omega)], ← w1, ← o2, ← o3] at eA
  iapply (run4 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) c1 c2 c3 c4 c5 fb fh fd fe _)
  isplitl [HB]; · iexact HB
  isplitl [HH]; · iexact HH
  isplitl [HD]; · iexact HD
  isplitl [HE]; · iexact HE
  iintro ⟨HB, HH, HD, HE⟩
  isplitl [HA HB HH HD HE Hg]
  · iexists _, _, _, _, _
    isplitr
    · ipureintro; exact eA
    isplitl [HA]; · iexact HA
    isplitl [HB]; · iexact HB
    isplitl [HH]; · iexact HH
    isplitl [HD]; · iexact HD
    isplitl [HE]; · iexact HE
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iexists _; iexact H7

end Cert.KernelIdeal.Hand

end
-- ==== Proof.KI.Run5.lean ====
/-
  Hand-written, untrusted. The kernel's body run once per kind of grid point, at any float values: what each of the five
  VMEM scratch matrices and the three one-element outputs hold afterwards, as functions of what they held before.
-/
module

public import proofs.«01_k».proof.Proof.KI.Body
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (c : Dev nD) (i : grid0.Coords) (arg1 : Memref sig .tc .vmem S2048x64 .f32) (harg1 : arg1.IsWhole) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)

set_option maxHeartbeats 4000000 in
/-- A last-stage point: one block of rows of the three sums, which start here. -/
theorem run5 (c1 : ¬ k0_cond1 i = 1#1) (c2 : ¬ k0_cond2 i = 1#1) (c3 : ¬ k0_cond3 i = 1#1) (c4 : ¬ k0_cond4 i = 1#1) (c5 : k0_cond5 i = 1#1) (c6 : k0_cond6 i = 1#1)
    (T Fm G : S2048x64.Idx → Elt F .f32) (fd fe : S2048x2048.Idx → Elt F .bf16) (a6 a7 a8 : S1x1.Idx → Elt F .f32) (K : PUnit → sProp 𝕄) :
    iprop(owns (c : Thread nD τ) arg1 fullShare T ∗ owns (c : Thread nD τ) arg4 fullShare Fm ∗ owns (c : Thread nD τ) arg5 fullShare G ∗ owns (c : Thread nD τ) arg6 fullShare a6 ∗ owns (c : Thread nD τ) arg7 fullShare a7 ∗ owns (c : Thread nD τ) arg8 fullShare a8 ∗ owns (c : Thread nD τ) scD fullShare fd ∗ owns (c : Thread nD τ) scE fullShare fe
        ∗ (iprop(owns (c : Thread nD τ) arg1 fullShare T ∗ owns (c : Thread nD τ) arg4 fullShare Fm ∗ owns (c : Thread nD τ) arg5 fullShare G ∗ owns (c : Thread nD τ) arg6 fullShare (k0_pay45 (lossF (wo (Scalar.muli (Scalar.subi (BitVec.ofNat 32 (i 0).val) 16#32) 256#32) (window T (k0_off9 i) S256x64.size (k0_off9_inb i c5)) T (window fd (k0_off10 i) S256x2048.size (k0_off10_inb i c5)) (window fe (k0_off10 i) S256x2048.size (k0_off10_inb i c5))) (wo2 (Scalar.muli (Scalar.subi (BitVec.ofNat 32 (i 0).val) 16#32) 256#32) (window T (k0_off9 i) S256x64.size (k0_off9_inb i c5)) T (window fd (k0_off10 i) S256x2048.size (k0_off10_inb i c5)) (window fe (k0_off10 i) S256x2048.size (k0_off10_inb i c5))) (window Fm (k0_off9 i) S256x64.size (k0_off9_inb i c5)) Fm) (k0_pay42 (F := F))) ∗ owns (c : Thread nD τ) arg7 fullShare (k0_pay46 (lossG (wo (Scalar.muli (Scalar.subi (BitVec.ofNat 32 (i 0).val) 16#32) 256#32) (window T (k0_off9 i) S256x64.size (k0_off9_inb i c5)) T (window fd (k0_off10 i) S256x2048.size (k0_off10_inb i c5)) (window fe (k0_off10 i) S256x2048.size (k0_off10_inb i c5))) (wo2 (Scalar.muli (Scalar.subi (BitVec.ofNat 32 (i 0).val) 16#32) 256#32) (window T (k0_off9 i) S256x64.size (k0_off9_inb i c5)) T (window fd (k0_off10 i) S256x2048.size (k0_off10_inb i c5)) (window fe (k0_off10 i) S256x2048.size (k0_off10_inb i c5))) (window G (k0_off9 i) S256x64.size (k0_off9_inb i c5)) G) (k0_pay43 (F := F))) ∗ owns (c : Thread nD τ) arg8 fullShare (klStep (window Fm (k0_off9 i) S256x64.size (k0_off9_inb i c5)) Fm (window G (k0_off9 i) S256x64.size (k0_off9_inb i c5)) G (k0_pay44 (F := F))) ∗ owns (c : Thread nD τ) scD fullShare fd ∗ owns (c : Thread nD τ) scE fullShare fe) -∗ K ⟨⟩))
      ⊢ wp frame (wpE (defs₀ (F := F)) Variants.none c none) Set.univ
          (body i arg1 harg1 arg2 harg2 arg3 harg3 arg4 harg4 arg5 harg5 arg6 harg6 arg7 harg7 arg8 harg8) K := by
  unfold body
  simp only [cc0__mega_eq_skeleton]; unfold cc0__mega_skel
  simp only [dif_neg c1, dif_neg c2, dif_neg c3, dif_neg c4, dif_pos c5]
  simp only [k0_part9_eq_skeleton]; unfold k0_part9_skel
  simp only [k0_part5_eq_skeleton, k0_part6_eq_skeleton, k0_part7_eq_skeleton, k0_part8_eq_skeleton]
  unfold k0_part5_skel k0_part6_skel k0_part7_skel k0_part8_skel
  unfold owns
  iintro ⟨⟨%f1, %e1, H1⟩, ⟨%f4, %e4, H4⟩, ⟨%f5, %e5, H5⟩, ⟨%f6, %e6, H6⟩, ⟨%f7, %e7, H7⟩, ⟨%f8, %e8, H8⟩, ⟨%fD, %eD, HD⟩, ⟨%fE, %eE, HE⟩, Hk⟩
  subst e1; subst e4; subst e5; subst e6; subst e7; subst e8; subst eD; subst eE
  sl_exec
  sl_step
  iapply Hk
  isplitl [H1]
  · iexists _; isplitr; swap; · iexact H1
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; refine (View.read_writes_full _ _ _ _ _).trans ?_; refine Eq.trans ?_ (congr3 (fun (T Fm : S2048x64.Idx → Elt F .f32) (a : S1x1.Idx → Elt F .f32) => k0_pay45 (lossF (wo _ _ T _ _) (wo2 _ _ T _ _) _ Fm) a) (View.readAt_full (s := S2048x64) arg1.view f1 inb_S2048x64_S2048x64_0_0) (View.readAt_full (s := S2048x64) arg4.view f4 inb_S2048x64_S2048x64_0_0) (cov_1 arg6.view inb_S1x1_S1x1_0_0 inb_S1x1_S1x1_0_0 (k0_pay42 (F := F)))); simp only [wo, wo2, lossF, snF, lseF, lossG, klStep, readAt_box]; (try rfl)
  isplitl [H7]
  · iexists _; isplitr; swap; · iexact H7
    ipureintro; refine (View.read_writes_full _ _ _ _ _).trans ?_; refine Eq.trans ?_ (congr3 (fun (T G : S2048x64.Idx → Elt F .f32) (a : S1x1.Idx → Elt F .f32) => k0_pay46 (lossG (wo _ _ T _ _) (wo2 _ _ T _ _) _ G) a) (View.readAt_full (s := S2048x64) arg1.view f1 inb_S2048x64_S2048x64_0_0) (View.readAt_full (s := S2048x64) arg5.view f5 inb_S2048x64_S2048x64_0_0) (cov_1 arg7.view inb_S1x1_S1x1_0_0 inb_S1x1_S1x1_0_0 (k0_pay43 (F := F)))); simp only [wo, wo2, lossF, snF, lseF, lossG, klStep, readAt_box]; (try rfl)
  isplitl [H8]
  · iexists _; isplitr; swap; · iexact H8
    ipureintro; refine (View.read_writes_full _ _ _ _ _).trans ?_; refine Eq.trans ?_ (congr3 (fun (Fm G : S2048x64.Idx → Elt F .f32) (a : S1x1.Idx → Elt F .f32) => klStep _ Fm _ G a) (View.readAt_full (s := S2048x64) arg4.view f4 inb_S2048x64_S2048x64_0_0) (View.readAt_full (s := S2048x64) arg5.view f5 inb_S2048x64_S2048x64_0_0) (cov_1 arg8.view inb_S1x1_S1x1_0_0 inb_S1x1_S1x1_0_0 (k0_pay44 (F := F)))); simp only [wo, wo2, lossF, snF, lseF, lossG, klStep, readAt_box]; (try rfl)
  isplitl [HD]
  · iexists _; isplitr; swap; · iexact HD
    ipureintro; rfl
  iexists _; isplitr; swap; · iexact HE
  ipureintro; rfl

end Cert.KernelIdeal.Hand

end
-- ==== Proof.KI.Sound5.lean ====
/-
  Hand-written, untrusted. The kernel's body run once per kind of grid point, at any float values: what each of the five
  VMEM scratch matrices and the three one-element outputs hold afterwards, as functions of what they held before.
-/
module

public import proofs.«01_k».proof.Proof.KI.Dats
public import proofs.«01_k».proof.Proof.KI.Run5
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The first point of the last stage. -/
theorem sound5 (c : Dev nD) (t : Fin cfg0.N) (ht : t.val = 16) :
    bodyPre m c t ⊢ wp frame (wpE (defs₀ (F := F)) Variants.none c none) Set.univ (bodyAt0 t) (fun _ => bodyPost m c t) := by
  have c1 : ¬ k0_cond1 (grid0.coords t) = 1#1 := fun h => by have := (conds t).1.mp h; omega
  have c2 : ¬ k0_cond2 (grid0.coords t) = 1#1 := fun h => by have := (conds t).2.1.mp h; omega
  have c3 : ¬ k0_cond3 (grid0.coords t) = 1#1 := fun h => by have := (conds t).2.2.1.mp h; omega
  have c4 : ¬ k0_cond4 (grid0.coords t) = 1#1 := fun h => by have := (conds t).2.2.2.1.mp h; omega
  have c5 : k0_cond5 (grid0.coords t) = 1#1 := (conds t).2.2.2.2.1.mpr (by omega)
  have c6 : k0_cond6 (grid0.coords t) = 1#1 := (conds t).2.2.2.2.2.mpr (by omega)
  unfold bodyPre bodyPost
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  rw [outP5_pos m c t (by omega), outP6_pos m c t (by omega), outP7_pos m c t (by omega)]
  simp only [before0, before1, before2, before3, before4]
  iintro ⟨⟨%fa, %fb, %fh, %fd, %fe, %I, HA, HB, HH, HD, HE, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  have eA := I.step5 (by omega)
  obtain ⟨o1, o2⟩ := off5 t (by omega)
  have hr : rowW (t.val - 16) = Scalar.muli (Scalar.subi (BitVec.ofNat 32 ((grid0.coords t) 0).val) 16#32) 256#32 := by
    rw [coord, rowW, show 16 + (t.val - 16) = t.val by omega]
  have w1 (x : S2048x64.Idx → Elt F .f32) : window x (k0_off9 (grid0.coords t)) S256x64.size (k0_off9_inb (grid0.coords t) c5) = lT x (t.val - 16) := window_off _ o1 _ _
  have w2 (x : S2048x2048.Idx → Elt F .bf16) : window x (k0_off10 (grid0.coords t)) S256x2048.size (k0_off10_inb (grid0.coords t) c5) = lS x (t.val - 16) := window_off _ o2 _ _
  have a5 : acc5 (tT m c) (tC m c) (tR m c) (tF m c) (t.val - 16 + 1) = k0_pay45 (lossF (wo (Scalar.muli (Scalar.subi (BitVec.ofNat 32 ((grid0.coords t) 0).val) 16#32) 256#32) (lT (tT m c) (t.val - 16)) (tT m c) (lS fd (t.val - 16)) (lS fe (t.val - 16)))
      (wo2 (Scalar.muli (Scalar.subi (BitVec.ofNat 32 ((grid0.coords t) 0).val) 16#32) 256#32) (lT (tT m c) (t.val - 16)) (tT m c) (lS fd (t.val - 16)) (lS fe (t.val - 16))) (lT (tF m c) (t.val - 16)) (tF m c)) (acc5 (tT m c) (tC m c) (tR m c) (tF m c) (t.val - 16)) := by
    rw [← hr, I.allD (by omega), I.allE (by omega)]; rfl
  have a6 : acc6 (tT m c) (tC m c) (tR m c) (tG m c) (t.val - 16 + 1) = k0_pay46 (lossG (wo (Scalar.muli (Scalar.subi (BitVec.ofNat 32 ((grid0.coords t) 0).val) 16#32) 256#32) (lT (tT m c) (t.val - 16)) (tT m c) (lS fd (t.val - 16)) (lS fe (t.val - 16)))
      (wo2 (Scalar.muli (Scalar.subi (BitVec.ofNat 32 ((grid0.coords t) 0).val) 16#32) 256#32) (lT (tT m c) (t.val - 16)) (tT m c) (lS fd (t.val - 16)) (lS fe (t.val - 16))) (lT (tG m c) (t.val - 16)) (tG m c)) (acc6 (tT m c) (tC m c) (tR m c) (tG m c) (t.val - 16)) := by
    rw [← hr, I.allD (by omega), I.allE (by omega)]; rfl
  have a7 : acc7 (tF m c) (tG m c) (t.val - 16 + 1) = klStep (lT (tF m c) (t.val - 16)) (tF m c) (lT (tG m c) (t.val - 16)) (tG m c) (acc7 (tF m c) (tG m c) (t.val - 16)) := rfl
  simp only [← w1, ← w2] at a5 a6 a7
  rw [show (dats m 0 c).after 5 t = acc5 (tT m c) (tC m c) (tR m c) (tF m c) (t.val - 16 + 1) from rfl, show (dats m 0 c).after 6 t = acc6 (tT m c) (tC m c) (tR m c) (tG m c) (t.val - 16 + 1) from rfl,
    show (dats m 0 c).after 7 t = acc7 (tF m c) (tG m c) (t.val - 16 + 1) from rfl, a5, a6, a7]
  rw [show acc5 (tT m c) (tC m c) (tR m c) (tF m c) (t.val - 16) = k0_pay42 by rw [show t.val - 16 = 0 by omega]; rfl,
    show acc6 (tT m c) (tC m c) (tR m c) (tG m c) (t.val - 16) = k0_pay43 by rw [show t.val - 16 = 0 by omega]; rfl,
    show acc7 (tF m c) (tG m c) (t.val - 16) = k0_pay44 by rw [show t.val - 16 = 0 by omega]; rfl]
  iapply (run5 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) c1 c2 c3 c4 c5 c6 (tT m c) (tF m c) (tG m c) fd fe _ _ _ _)
  isplitl [H0]; · iexact H0
  isplitl [H3]; · iexact H3
  isplitl [H4]; · iexact H4
  isplitl [H5]; · iexact H5
  isplitl [H6]; · iexact H6
  isplitl [H7]; · iexact H7
  isplitl [HD]; · iexact HD
  isplitl [HE]; · iexact HE
  iintro ⟨H0, H3, H4, H5, H6, H7, HD, HE⟩
  isplitl [HA HB HH HD HE Hg]
  · iexists _, _, _, _, _
    isplitr
    · ipureintro; exact eA
    isplitl [HA]; · iexact HA
    isplitl [HB]; · iexact HB
    isplitl [HH]; · iexact HH
    isplitl [HD]; · iexact HD
    isplitl [HE]; · iexact HE
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Hand

end
-- ==== Proof.KI.Run6.lean ====
/-
  Hand-written, untrusted. The kernel's body run once per kind of grid point, at any float values: what each of the five
  VMEM scratch matrices and the three one-element outputs hold afterwards, as functions of what they held before.
-/
module

public import proofs.«01_k».proof.Proof.KI.Body
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (c : Dev nD) (i : grid0.Coords) (arg1 : Memref sig .tc .vmem S2048x64 .f32) (harg1 : arg1.IsWhole) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)

set_option maxHeartbeats 4000000 in
/-- A last-stage point: one block of rows of the three sums, added to what is there. -/
theorem run6 (c1 : ¬ k0_cond1 i = 1#1) (c2 : ¬ k0_cond2 i = 1#1) (c3 : ¬ k0_cond3 i = 1#1) (c4 : ¬ k0_cond4 i = 1#1) (c5 : k0_cond5 i = 1#1) (c6 : ¬ k0_cond6 i = 1#1)
    (T Fm G : S2048x64.Idx → Elt F .f32) (fd fe : S2048x2048.Idx → Elt F .bf16) (a6 a7 a8 : S1x1.Idx → Elt F .f32) (K : PUnit → sProp 𝕄) :
    iprop(owns (c : Thread nD τ) arg1 fullShare T ∗ owns (c : Thread nD τ) arg4 fullShare Fm ∗ owns (c : Thread nD τ) arg5 fullShare G ∗ owns (c : Thread nD τ) arg6 fullShare a6 ∗ owns (c : Thread nD τ) arg7 fullShare a7 ∗ owns (c : Thread nD τ) arg8 fullShare a8 ∗ owns (c : Thread nD τ) scD fullShare fd ∗ owns (c : Thread nD τ) scE fullShare fe
        ∗ (iprop(owns (c : Thread nD τ) arg1 fullShare T ∗ owns (c : Thread nD τ) arg4 fullShare Fm ∗ owns (c : Thread nD τ) arg5 fullShare G ∗ owns (c : Thread nD τ) arg6 fullShare (k0_pay45 (lossF (wo (Scalar.muli (Scalar.subi (BitVec.ofNat 32 (i 0).val) 16#32) 256#32) (window T (k0_off9 i) S256x64.size (k0_off9_inb i c5)) T (window fd (k0_off10 i) S256x2048.size (k0_off10_inb i c5)) (window fe (k0_off10 i) S256x2048.size (k0_off10_inb i c5))) (wo2 (Scalar.muli (Scalar.subi (BitVec.ofNat 32 (i 0).val) 16#32) 256#32) (window T (k0_off9 i) S256x64.size (k0_off9_inb i c5)) T (window fd (k0_off10 i) S256x2048.size (k0_off10_inb i c5)) (window fe (k0_off10 i) S256x2048.size (k0_off10_inb i c5))) (window Fm (k0_off9 i) S256x64.size (k0_off9_inb i c5)) Fm) a6) ∗ owns (c : Thread nD τ) arg7 fullShare (k0_pay46 (lossG (wo (Scalar.muli (Scalar.subi (BitVec.ofNat 32 (i 0).val) 16#32) 256#32) (window T (k0_off9 i) S256x64.size (k0_off9_inb i c5)) T (window fd (k0_off10 i) S256x2048.size (k0_off10_inb i c5)) (window fe (k0_off10 i) S256x2048.size (k0_off10_inb i c5))) (wo2 (Scalar.muli (Scalar.subi (BitVec.ofNat 32 (i 0).val) 16#32) 256#32) (window T (k0_off9 i) S256x64.size (k0_off9_inb i c5)) T (window fd (k0_off10 i) S256x2048.size (k0_off10_inb i c5)) (window fe (k0_off10 i) S256x2048.size (k0_off10_inb i c5))) (window G (k0_off9 i) S256x64.size (k0_off9_inb i c5)) G) a7) ∗ owns (c : Thread nD τ) arg8 fullShare (klStep (window Fm (k0_off9 i) S256x64.size (k0_off9_inb i c5)) Fm (window G (k0_off9 i) S256x64.size (k0_off9_inb i c5)) G a8) ∗ owns (c : Thread nD τ) scD fullShare fd ∗ owns (c : Thread nD τ) scE fullShare fe) -∗ K ⟨⟩))
      ⊢ wp frame (wpE (defs₀ (F := F)) Variants.none c none) Set.univ
          (body i arg1 harg1 arg2 harg2 arg3 harg3 arg4 harg4 arg5 harg5 arg6 harg6 arg7 harg7 arg8 harg8) K := by
  unfold body
  simp only [cc0__mega_eq_skeleton]; unfold cc0__mega_skel
  simp only [dif_neg c1, dif_neg c2, dif_neg c3, dif_neg c4, dif_pos c5]
  simp only [k0_part9_eq_skeleton]; unfold k0_part9_skel
  simp only [k0_part5_eq_skeleton, k0_part6_eq_skeleton, k0_part7_eq_skeleton, k0_part8_eq_skeleton]
  unfold k0_part5_skel k0_part6_skel k0_part7_skel k0_part8_skel
  unfold owns
  iintro ⟨⟨%f1, %e1, H1⟩, ⟨%f4, %e4, H4⟩, ⟨%f5, %e5, H5⟩, ⟨%f6, %e6, H6⟩, ⟨%f7, %e7, H7⟩, ⟨%f8, %e8, H8⟩, ⟨%fD, %eD, HD⟩, ⟨%fE, %eE, HE⟩, Hk⟩
  subst e1; subst e4; subst e5; subst e6; subst e7; subst e8; subst eD; subst eE
  sl_exec
  sl_step
  iapply Hk
  isplitl [H1]
  · iexists _; isplitr; swap; · iexact H1
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; refine (View.read_writes_full _ _ _ _ _).trans ?_; refine Eq.trans ?_ (congr3 (fun (T Fm : S2048x64.Idx → Elt F .f32) (a : S1x1.Idx → Elt F .f32) => k0_pay45 (lossF (wo _ _ T _ _) (wo2 _ _ T _ _) _ Fm) a) (View.readAt_full (s := S2048x64) arg1.view f1 inb_S2048x64_S2048x64_0_0) (View.readAt_full (s := S2048x64) arg4.view f4 inb_S2048x64_S2048x64_0_0) (View.readAt_full (s := S1x1) arg6.view f6 inb_S1x1_S1x1_0_0)); simp only [wo, wo2, lossF, snF, lseF, lossG, klStep, readAt_box]; (try rfl)
  isplitl [H7]
  · iexists _; isplitr; swap; · iexact H7
    ipureintro; refine (View.read_writes_full _ _ _ _ _).trans ?_; refine Eq.trans ?_ (congr3 (fun (T G : S2048x64.Idx → Elt F .f32) (a : S1x1.Idx → Elt F .f32) => k0_pay46 (lossG (wo _ _ T _ _) (wo2 _ _ T _ _) _ G) a) (View.readAt_full (s := S2048x64) arg1.view f1 inb_S2048x64_S2048x64_0_0) (View.readAt_full (s := S2048x64) arg5.view f5 inb_S2048x64_S2048x64_0_0) (View.readAt_full (s := S1x1) arg7.view f7 inb_S1x1_S1x1_0_0)); simp only [wo, wo2, lossF, snF, lseF, lossG, klStep, readAt_box]; (try rfl)
  isplitl [H8]
  · iexists _; isplitr; swap; · iexact H8
    ipureintro; refine (View.read_writes_full _ _ _ _ _).trans ?_; refine Eq.trans ?_ (congr3 (fun (Fm G : S2048x64.Idx → Elt F .f32) (a : S1x1.Idx → Elt F .f32) => klStep _ Fm _ G a) (View.readAt_full (s := S2048x64) arg4.view f4 inb_S2048x64_S2048x64_0_0) (View.readAt_full (s := S2048x64) arg5.view f5 inb_S2048x64_S2048x64_0_0) (View.readAt_full (s := S1x1) arg8.view f8 inb_S1x1_S1x1_0_0)); simp only [wo, wo2, lossF, snF, lseF, lossG, klStep, readAt_box]; (try rfl)
  isplitl [HD]
  · iexists _; isplitr; swap; · iexact HD
    ipureintro; rfl
  iexists _; isplitr; swap; · iexact HE
  ipureintro; rfl

end Cert.KernelIdeal.Hand

end
-- ==== Proof.KI.Sound6.lean ====
/-
  Hand-written, untrusted. The kernel's body run once per kind of grid point, at any float values: what each of the five
  VMEM scratch matrices and the three one-element outputs hold afterwards, as functions of what they held before.
-/
module

public import proofs.«01_k».proof.Proof.KI.Dats
public import proofs.«01_k».proof.Proof.KI.Run6
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 4000000 in
/-- A later one. -/
theorem sound6 (c : Dev nD) (t : Fin cfg0.N) (ht : 16 < t.val) :
    bodyPre m c t ⊢ wp frame (wpE (defs₀ (F := F)) Variants.none c none) Set.univ (bodyAt0 t) (fun _ => bodyPost m c t) := by
  have c1 : ¬ k0_cond1 (grid0.coords t) = 1#1 := fun h => by have := (conds t).1.mp h; omega
  have c2 : ¬ k0_cond2 (grid0.coords t) = 1#1 := fun h => by have := (conds t).2.1.mp h; omega
  have c3 : ¬ k0_cond3 (grid0.coords t) = 1#1 := fun h => by have := (conds t).2.2.1.mp h; omega
  have c4 : ¬ k0_cond4 (grid0.coords t) = 1#1 := fun h => by have := (conds t).2.2.2.1.mp h; omega
  have c5 : k0_cond5 (grid0.coords t) = 1#1 := (conds t).2.2.2.2.1.mpr (by omega)
  have c6 : ¬ k0_cond6 (grid0.coords t) = 1#1 := fun h => by have := (conds t).2.2.2.2.2.mp h; omega
  unfold bodyPre bodyPost
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold Φ
  rw [outP5_pos m c t (by omega), outP6_pos m c t (by omega), outP7_pos m c t (by omega)]
  simp only [before0, before1, before2, before3, before4, before5 m c t ht, before6 m c t ht, before7 m c t ht]
  iintro ⟨⟨%fa, %fb, %fh, %fd, %fe, %I, HA, HB, HH, HD, HE, Hg⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  have eA := I.step5 (by omega)
  obtain ⟨o1, o2⟩ := off5 t (by omega)
  have hr : rowW (t.val - 16) = Scalar.muli (Scalar.subi (BitVec.ofNat 32 ((grid0.coords t) 0).val) 16#32) 256#32 := by
    rw [coord, rowW, show 16 + (t.val - 16) = t.val by omega]
  have w1 (x : S2048x64.Idx → Elt F .f32) : window x (k0_off9 (grid0.coords t)) S256x64.size (k0_off9_inb (grid0.coords t) c5) = lT x (t.val - 16) := window_off _ o1 _ _
  have w2 (x : S2048x2048.Idx → Elt F .bf16) : window x (k0_off10 (grid0.coords t)) S256x2048.size (k0_off10_inb (grid0.coords t) c5) = lS x (t.val - 16) := window_off _ o2 _ _
  have a5 : acc5 (tT m c) (tC m c) (tR m c) (tF m c) (t.val - 16 + 1) = k0_pay45 (lossF (wo (Scalar.muli (Scalar.subi (BitVec.ofNat 32 ((grid0.coords t) 0).val) 16#32) 256#32) (lT (tT m c) (t.val - 16)) (tT m c) (lS fd (t.val - 16)) (lS fe (t.val - 16)))
      (wo2 (Scalar.muli (Scalar.subi (BitVec.ofNat 32 ((grid0.coords t) 0).val) 16#32) 256#32) (lT (tT m c) (t.val - 16)) (tT m c) (lS fd (t.val - 16)) (lS fe (t.val - 16))) (lT (tF m c) (t.val - 16)) (tF m c)) (acc5 (tT m c) (tC m c) (tR m c) (tF m c) (t.val - 16)) := by
    rw [← hr, I.allD (by omega), I.allE (by omega)]; rfl
  have a6 : acc6 (tT m c) (tC m c) (tR m c) (tG m c) (t.val - 16 + 1) = k0_pay46 (lossG (wo (Scalar.muli (Scalar.subi (BitVec.ofNat 32 ((grid0.coords t) 0).val) 16#32) 256#32) (lT (tT m c) (t.val - 16)) (tT m c) (lS fd (t.val - 16)) (lS fe (t.val - 16)))
      (wo2 (Scalar.muli (Scalar.subi (BitVec.ofNat 32 ((grid0.coords t) 0).val) 16#32) 256#32) (lT (tT m c) (t.val - 16)) (tT m c) (lS fd (t.val - 16)) (lS fe (t.val - 16))) (lT (tG m c) (t.val - 16)) (tG m c)) (acc6 (tT m c) (tC m c) (tR m c) (tG m c) (t.val - 16)) := by
    rw [← hr, I.allD (by omega), I.allE (by omega)]; rfl
  have a7 : acc7 (tF m c) (tG m c) (t.val - 16 + 1) = klStep (lT (tF m c) (t.val - 16)) (tF m c) (lT (tG m c) (t.val - 16)) (tG m c) (acc7 (tF m c) (tG m c) (t.val - 16)) := rfl
  simp only [← w1, ← w2] at a5 a6 a7
  rw [show (dats m 0 c).after 5 t = acc5 (tT m c) (tC m c) (tR m c) (tF m c) (t.val - 16 + 1) from rfl, show (dats m 0 c).after 6 t = acc6 (tT m c) (tC m c) (tR m c) (tG m c) (t.val - 16 + 1) from rfl,
    show (dats m 0 c).after 7 t = acc7 (tF m c) (tG m c) (t.val - 16 + 1) from rfl, a5, a6, a7]
  iapply (run6 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) c1 c2 c3 c4 c5 c6 (tT m c) (tF m c) (tG m c) fd fe (acc5 (tT m c) (tC m c) (tR m c) (tF m c) (t.val - 16)) (acc6 (tT m c) (tC m c) (tR m c) (tG m c) (t.val - 16)) (acc7 (tF m c) (tG m c) (t.val - 16)) _)
  isplitl [H0]; · iexact H0
  isplitl [H3]; · iexact H3
  isplitl [H4]; · iexact H4
  isplitl [H5]; · iexact H5
  isplitl [H6]; · iexact H6
  isplitl [H7]; · iexact H7
  isplitl [HD]; · iexact HD
  isplitl [HE]; · iexact HE
  iintro ⟨H0, H3, H4, H5, H6, H7, HD, HE⟩
  isplitl [HA HB HH HD HE Hg]
  · iexists _, _, _, _, _
    isplitr
    · ipureintro; exact eA
    isplitl [HA]; · iexact HA
    isplitl [HB]; · iexact HB
    isplitl [HH]; · iexact HH
    isplitl [HD]; · iexact HD
    isplitl [HE]; · iexact HE
    iexact Hg
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Hand

end
-- ==== Proof.KI.Launch.lean ====
/-
  Hand-written, untrusted. The kernel's body run once per kind of grid point, at any float values: what each of the five
  VMEM scratch matrices and the three one-element outputs hold afterwards, as functions of what they held before.
-/
module

public import proofs.«01_k».proof.Proof.KI.Sound1
public import proofs.«01_k».proof.Proof.KI.Sound2
public import proofs.«01_k».proof.Proof.KI.Sound3
public import proofs.«01_k».proof.Proof.KI.Sound4
public import proofs.«01_k».proof.Proof.KI.Sound5
public import proofs.«01_k».proof.Proof.KI.Sound6
public import proofs.«01_k».proof.Proof.Gen.KernelIdeal.Skeleton
public import proofs.«01_k».proof.Proof.Gen.KernelIdeal.Points
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  have := t.isLt; have e : cfg0.N = 24 := N_0
  rcases (by omega : t.val < 4 ∨ (4 ≤ t.val ∧ t.val < 8) ∨ (8 ≤ t.val ∧ t.val < 12) ∨ (12 ≤ t.val ∧ t.val < 16) ∨ t.val = 16 ∨ 16 < t.val) with h | h | h | h | h | h
  · exact sound1 m c t h
  · exact sound2 m c t h
  · exact sound3 m c t h
  · exact sound4 m c t h
  · exact sound5 m c t h
  · exact sound6 m c t h

theorem defs₀_row (t : Fin cfg0.N) : defs₀ (F := F) .tc cfg0.body (cfg0.bodyArgs t (cfg0.slots t)) = bodyAt0 t := by
  unfold defs₀; rw [Defs.onTc_tc]

/-- What a window hands back: as found at an idle point that writes nothing back, as left at the others. -/
def handed (i f : Bool) (P Q : sProp 𝕄) : sProp 𝕄 := match i with | true => (match f with | false => P | true => Q) | false => Q
def found (b : Bool) (P Q : sProp 𝕄) : sProp 𝕄 := match b with | true => P | false => Q
theorem handed_of (i f b : Bool) (P Q : sProp 𝕄) (hi : i = b) (hf : b = true → f = false) : found b P Q ⊢ handed i f P Q := by
  subst hi
  cases i
  · exact .rfl
  · rw [hf rfl]; exact .rfl

/-- The body meets the pipeline's demand at every point. -/
theorem body_obligation (c : Dev nD) :
    BodyObligation (dats (F := F) m 0 c) (defs₀ (F := F)) Variants.none () Set.univ := fun t => by
  rw [bigSep_W0, bigSep_W0, defs₀_row]
  refine triple_restated (sound_body m c t) rfl .rfl fun _ => ?_
  unfold bodyPost
  refine sep_mono .rfl (sep_mono .rfl (sep_mono .rfl (sep_mono .rfl (sep_mono .rfl (sep_mono .rfl (sep_mono .rfl (sep_mono ?_ (sep_mono ?_ ?_))))))))
  · exact handed_of (cfg0.idle 5 (cfg0.grid.coords t)) ((cfg0.win 5).flush t) (decide (t.val < 16)) iprop(∃ d, owns (c : Thread nD τ) (st0_5 t) fullShare ((dats m 0 c).before 5 t d)) (owns (c : Thread nD τ) (st0_5 t) fullShare ((dats m 0 c).after 5 t)) (idle5 t) fun h => flushes5 t (of_decide_eq_true h)
  · exact handed_of (cfg0.idle 6 (cfg0.grid.coords t)) ((cfg0.win 6).flush t) (decide (t.val < 16)) iprop(∃ d, owns (c : Thread nD τ) (st0_6 t) fullShare ((dats m 0 c).before 6 t d)) (owns (c : Thread nD τ) (st0_6 t) fullShare ((dats m 0 c).after 6 t)) (idle6 t) fun h => flushes6 t (of_decide_eq_true h)
  · exact handed_of (cfg0.idle 7 (cfg0.grid.coords t)) ((cfg0.win 7).flush t) (decide (t.val < 16)) iprop(∃ d, owns (c : Thread nD τ) (st0_7 t) fullShare ((dats m 0 c).before 7 t d)) (owns (c : Thread nD τ) (st0_7 t) fullShare ((dats m 0 c).after 7 t)) (idle7 t) fun h => flushes7 t (of_decide_eq_true h)

theorem enter (c : Dev nD) : Pipeline.ΦA spec0 c ⊢ (dats m 0 c).Φ 0 := by
  rw [show (dats m 0 c).Φ 0 = Φ m c 0 from rfl]
  unfold Pipeline.ΦA Φ
  rw [scopedRest0_eq]
  simp only [scA, scB, scH, scD, scE, owns_whole]
  iintro ⟨⟨⟨%fa, HA⟩, ⟨%fb, HB⟩, ⟨%fh, HH⟩, ⟨%fd, HD⟩, ⟨%fe, HE⟩⟩, Hg⟩
  iexists fa, fb, fh, fd, fe
  isplitr
  · ipureintro; exact Inv.start
  isplitl [HA]; · iexact HA
  isplitl [HB]; · iexact HB
  isplitl [HH]; · iexact HH
  isplitl [HD]; · iexact HD
  isplitl [HE]; · iexact HE
  iexact Hg

theorem leave (c : Dev nD) : (dats m 0 c).Φ (Fin.last cfg0.N) ⊢ Pipeline.ΦA spec0 c := by
  rw [show (dats m 0 c).Φ (Fin.last cfg0.N) = Φ m c cfg0.N from rfl]
  unfold Pipeline.ΦA Φ
  rw [scopedRest0_eq]
  simp only [scA, scB, scH, scD, scE, owns_whole]
  iintro ⟨%fa, %fb, %fh, %fd, %fe, %I, HA, HB, HH, HD, HE, Hg⟩
  isplitl [HA HB HH HD HE]
  · isplitl [HA]; · iexists _; iexact HA
    isplitl [HB]; · iexists _; iexact HB
    isplitl [HH]; · iexists _; iexact HH
    isplitl [HD]; · iexists _; iexact HD
    iexists _; iexact HE
  iexact Hg

set_option backward.isDefEq.respectTransparency.types false in
/-- The whole run: every array at what the points leave, every other buffer at what the host lines leave, every counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m) (enter m) (leave m) _ (fun _ h => h)

variable {m}
/-- The arguments end as they were: three are inputs of the pipeline, the fourth no array of it. -/
theorem args_kept {r : PUnit × MemSt nD τ sig (Elt F)} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have input (w : Fin cfg0.W) (hw : (spec0 w).isOut = false) := ((h c).1 w).trans (((dats m 0 c).arrAt_in w hw _).trans (A_eq m c w))
  exact ⟨(input 3 rfl).trans (V_main_arg0 m c), (input 4 rfl).trans (V_main_arg1 m c), (input 0 rfl).trans (V_main_arg2 m c),
    ((h c).2 main_arg3 (Pipeline.mem_restRefs_of main_arg3 (by decide) (by decide))).trans (W_main_arg3 m (dats m) c)⟩

end Cert.KernelIdeal.Hand

end
-- ==== Proof.Frames.lean ====
/-
  Hand-written, untrusted. The three programs end with their arguments as they were and every counter at zero; the one named
  constant is the quotient it stands for.
-/
module

public import proofs.«01_k».proof.Defs
public import proofs.«01_k».proof.Proof.K.Launch
public import proofs.«01_k».proof.Proof.KI.Launch
public import proofs.«01_k».proof.Proof.Gen.ReferenceIdeal.Run

@[expose] public section

noncomputable section

namespace Cert.Proof

open Idealize.ShloMosaic Idealize.SL.Sem

theorem frame_K : Cert.quiescent_Kernel (hKernel := Cert.Kernel.Gen.facts) := fun m g _ =>
  (θ_run Cert.Kernel.defs _ _).mono (fun _ h => ⟨Cert.Kernel.Hand.args_kept h.1, h.2⟩) (Cert.Kernel.Hand.run_main m g)

theorem frame_KI : Cert.quiescent_KernelIdeal (hKernelIdeal := Cert.KernelIdeal.Gen.facts) := fun m g _ =>
  (θ_run Cert.KernelIdeal.defs _ _).mono (fun _ h => ⟨Cert.KernelIdeal.Hand.args_kept h.1, h.2⟩) (Cert.KernelIdeal.Hand.run_main (F := Ideal) m g)

theorem frame_RI : Cert.quiescent_ReferenceIdeal (hReferenceIdeal := Cert.ReferenceIdeal.Gen.facts) := fun m g _ =>
  (θ_run Cert.ReferenceIdeal.defs _ _).mono
    (fun r h => ⟨fun c => (h c).2.2.2, Idealize.ShloMosaic.sem_eq_zero_of_no_sems (by decide) r.2⟩) (Cert.ReferenceIdeal.Value.run (F := Ideal) m g)

theorem preserves : Cert.preserves_Kernel_KernelIdeal :=
  IdealRules.named_const.statement Cert.KernelIdeal.κ "fifth" .f32 0x3E4CCCCD#32 _ rfl

end Cert.Proof

end
-- ==== Proof.V.Spec.lean ====
/-
  Hand-written, untrusted. The quantities of the three losses over the real numbers, and the lemmas that carry a
  coercion of real numbers through the operations of the extended reals.
-/
module

public import Idealize.ShloMosaic.Lib.Pointwise

@[expose] public section

noncomputable section

namespace Cert.Val

open Idealize.ShloMosaic

/-! ## Coercions -/

/-- The small positive number that bounds a norm and a squared distance from below. -/
def eps : ℝ := 9223372 * (2 : ℝ) ^ (-63 : ℤ)
theorem eps_pos : 0 < eps := by unfold eps; positivity
theorem ofBits_eps : Ideal.ofBits .f32 0x2B8CBCCC#32 = ((eps : ℝ) : EReal) := by
  simp [Ideal.ofBits, Ideal.ieee, eps, -EReal.coe_mul]
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]
theorem ofBits_half : Ideal.ofBits .f32 0x3F000000#32 = (((1 : ℝ) / 2 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_count : Ideal.ofBits .f32 0x45000000#32 = ((2048 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_bot : Ideal.ofBits .f32 0xFF800000#32 = (⊥ : EReal) := by
  simp [Ideal.ofBits, Ideal.ieee, -EReal.coe_mul]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]
theorem coe_sqrt {a : ℝ} (h : 0 ≤ a) : Ideal.sqrt (a : EReal) = ((Real.sqrt a : ℝ) : EReal) := by
  rw [Ideal.sqrt_coe, if_neg (not_lt.mpr h)]
theorem coe_log {a : ℝ} (h : 0 < a) : Ideal.log (a : EReal) = ((Real.log a : ℝ) : EReal) := by
  rw [Ideal.log_coe, if_neg (not_le.mpr h)]
theorem coe_div (a : ℝ) {b : ℝ} (h : b ≠ 0) : Ideal.div (a : EReal) (b : EReal) = ((a / b : ℝ) : EReal) := by
  rw [Ideal.div_coe h, ← EReal.coe_mul, mul_one_div]
theorem sqrt_max (a : ℝ) : Ideal.sqrt ((max a eps : ℝ) : EReal) = ((Real.sqrt (max a eps) : ℝ) : EReal) :=
  coe_sqrt ((eps_pos.trans_le (le_max_right _ _)).le)
theorem zero_coe : (0 : EReal) = ((0 : ℝ) : EReal) := rfl
theorem one_coe : (1 : EReal) = ((1 : ℝ) : EReal) := rfl

/-! ## The losses' quantities -/

variable {n m : ℕ}

def dot (x : Fin n → Fin 64 → ℝ) (y : Fin m → Fin 64 → ℝ) (i : Fin n) (j : Fin m) : ℝ := ∑ k : Fin 64, x i k * y j k
/-- Squared distance of row `i` of `x` and row `j` of `y`, bounded from below. -/
def dd (x : Fin n → Fin 64 → ℝ) (y : Fin m → Fin 64 → ℝ) (i : Fin n) (j : Fin m) : ℝ :=
  max (dot x x i i + dot y y j j - 2 * dot x y i j) eps
def dist (x : Fin n → Fin 64 → ℝ) (y : Fin m → Fin 64 → ℝ) (i : Fin n) (j : Fin m) : ℝ := Real.sqrt (dd x y i j)
/-- The distance over its row's mean. -/
def sn (x : Fin n → Fin 64 → ℝ) (y : Fin 2048 → Fin 64 → ℝ) (i : Fin n) (j : Fin 2048) : ℝ :=
  dist x y i j * (2048 / ∑ j, dist x y i j)
/-- Sum of the exponentials of a row's negated scaled distances. -/
def se (x : Fin n → Fin 64 → ℝ) (y : Fin 2048 → Fin 64 → ℝ) (i : Fin n) : ℝ := ∑ j, Real.exp (-sn x y i j)
/-- A row over its bounded norm. -/
def nrm (x : Fin n → Fin 64 → ℝ) (i : Fin n) (k : Fin 64) : ℝ := x i k / max (Real.sqrt (dot x x i i)) eps

/-- One block's share of a contrastive loss, of its scaled distances and the weights of its two terms. -/
def rcT (s w o : Fin n → Fin 2048 → ℝ) : ℝ :=
  ∑ i, ∑ j, (s i j * s i j * w i j + max (1 - s i j) 0 * max (1 - s i j) 0 * o i j)
/-- One block's share of the divergence. -/
def klT (x : Fin n → Fin 64 → ℝ) (X : Fin 2048 → Fin 64 → ℝ) (y : Fin n → Fin 64 → ℝ) (Y : Fin 2048 → Fin 64 → ℝ) : ℝ :=
  (∑ i, ∑ j, Real.exp (-sn y Y i j) * (1 / se y Y i) * (sn x X i j - sn y Y i j)) + ∑ i, (Real.log (se x X i) - Real.log (se y Y i))

theorem dot_self_nonneg (x : Fin n → Fin 64 → ℝ) (i : Fin n) : 0 ≤ dot x x i i :=
  Finset.sum_nonneg fun k _ => mul_self_nonneg _
theorem dd_pos (x : Fin n → Fin 64 → ℝ) (y : Fin m → Fin 64 → ℝ) (i : Fin n) (j : Fin m) : 0 < dd x y i j :=
  lt_of_lt_of_le eps_pos (le_max_right _ _)
theorem dist_pos (x : Fin n → Fin 64 → ℝ) (y : Fin m → Fin 64 → ℝ) (i : Fin n) (j : Fin m) : 0 < dist x y i j :=
  Real.sqrt_pos.mpr (dd_pos x y i j)
theorem rs_pos (x : Fin n → Fin 64 → ℝ) (y : Fin 2048 → Fin 64 → ℝ) (i : Fin n) : 0 < ∑ j, dist x y i j :=
  Finset.sum_pos (fun j _ => dist_pos x y i j) ⟨0, Finset.mem_univ _⟩
theorem se_pos (x : Fin n → Fin 64 → ℝ) (y : Fin 2048 → Fin 64 → ℝ) (i : Fin n) : 0 < se x y i :=
  Finset.sum_pos (fun j _ => Real.exp_pos _) ⟨0, Finset.mem_univ _⟩
theorem nrm_den_pos (x : Fin n → Fin 64 → ℝ) (i : Fin n) : 0 < max (Real.sqrt (dot x x i i)) eps :=
  lt_of_lt_of_le eps_pos (le_max_right _ _)

/-- The rows of `x` over their bounded norms, over the extended reals, are those of the real matrix `X`. -/
def Rows (x : Fin n → Fin 64 → EReal) (X : Fin n → Fin 64 → ℝ) : Prop :=
  ∀ i k, Ideal.div (x i k) (max (Ideal.sqrt (∑ k, x i k * x i k)) ((eps : ℝ) : EReal)) = ((nrm X i k : ℝ) : EReal)

theorem rows_real (x : Fin 64 → EReal) (X : Fin 64 → ℝ) (h : ∀ k, x k = (X k : EReal)) (k : Fin 64) :
    Ideal.div (x k) (max (Ideal.sqrt (∑ k, x k * x k)) ((eps : ℝ) : EReal)) = ((X k / max (Real.sqrt (∑ k, X k * X k)) eps : ℝ) : EReal) := by
  have hs : Ideal.sqrt ((∑ k, X k * X k : ℝ) : EReal) = _ := coe_sqrt (Finset.sum_nonneg fun k _ => mul_self_nonneg (X k))
  simp only [h, ← EReal.coe_mul, coe_sum, hs, coe_max]
  exact coe_div _ (lt_of_lt_of_le eps_pos (le_max_right _ _)).ne'

/-- The square of an extended real is no less than zero, and infinite for an infinity. -/
theorem sq_nonneg' (a : EReal) : 0 ≤ a * a := by
  induction a with
  | bot => rw [EReal.bot_mul_bot]; exact le_top
  | coe a => rw [← EReal.coe_mul]; exact EReal.coe_nonneg.mpr (mul_self_nonneg a)
  | top => rw [EReal.top_mul_top]; exact le_top

/-- A row that holds an infinity has an infinite norm, and is zero over it. -/
theorem rows_inf (x : Fin 64 → EReal) (p : Fin 64) (h : x p * x p = ⊤) (k : Fin 64) :
    Ideal.div (x k) (max (Ideal.sqrt (∑ k, x k * x k)) ((eps : ℝ) : EReal)) = 0 := by
  have hs : ∑ k, x k * x k = ⊤ := top_le_iff.mp (h ▸ Finset.single_le_sum (f := fun k => x k * x k) (fun k _ => sq_nonneg' (x k)) (Finset.mem_univ p))
  have ht : Ideal.sqrt (⊤ : EReal) = ⊤ := rfl
  rw [hs, ht, max_eq_left le_top, Ideal.div, if_neg EReal.top_ne_zero, EReal.inv_top, mul_zero]

/-- Whatever a matrix holds, its rows over their bounded norms are real: those of the matrix with zero in place of each row
    that holds an infinity. -/
theorem exists_rows (x : Fin n → Fin 64 → EReal) : ∃ X, Rows x X := by
  classical
  refine ⟨fun i k => if ∀ p, x i p * x i p ≠ ⊤ then (x i k).toReal else 0, fun i k => ?_⟩
  unfold nrm dot
  by_cases h : ∀ p, x i p * x i p ≠ ⊤
  · simp only [if_pos h]
    refine rows_real (x i) (fun k => (x i k).toReal) (fun k => (EReal.coe_toReal (fun e => h k ?_) (fun e => h k ?_)).symm) k
    · rw [e, EReal.top_mul_top]
    · rw [e, EReal.bot_mul_bot]
  · simp only [if_neg h, zero_div]
    obtain ⟨p, hp⟩ := not_forall.mp h
    exact rows_inf (x i) p (not_not.mp hp) k

end Cert.Val

end
-- ==== Proof.V.Order.lean ====
/-
  Hand-written, untrusted. The order in which columns are selected from a row of real weights: the larger weight first, and
  of equal weights the lower column. A column's rank is the number of columns before it; a round that removes the first
  column holding the row's maximum removes the column of the next rank; and a stable descending sort puts at place `r` the
  column of rank `r`.
-/
module

public import Idealize.ShloMosaic.Lib.Pointwise
public import Idealize.ShloMosaic.Lib.SortPrefix

@[expose] public section

set_option maxRecDepth 8192

noncomputable section

namespace Cert.Val

open Idealize.ShloMosaic
open scoped Classical

/-- Column `a` is selected before column `b`. -/
def bef (w : Fin 2048 → ℝ) (a b : Fin 2048) : Prop := w b < w a ∨ (w b = w a ∧ a < b)

variable {w : Fin 2048 → ℝ}

theorem bef_irrefl (a : Fin 2048) : ¬ bef w a a := by rintro (h | ⟨_, h⟩) <;> exact lt_irrefl _ h
theorem bef_trans {a b c : Fin 2048} (h : bef w a b) (h' : bef w b c) : bef w a c := by
  rcases h with h | ⟨e, h⟩ <;> rcases h' with h' | ⟨e', h'⟩
  · exact Or.inl (h'.trans h)
  · exact Or.inl (e' ▸ h)
  · exact Or.inl (e ▸ h')
  · exact Or.inr ⟨e'.trans e, h.trans h'⟩
theorem bef_total {a b : Fin 2048} (h : a ≠ b) : bef w a b ∨ bef w b a := by
  rcases lt_trichotomy (w a) (w b) with hw | hw | hw
  · exact Or.inr (Or.inl hw)
  · rcases lt_or_gt_of_ne h with hl | hl
    · exact Or.inl (Or.inr ⟨hw.symm, hl⟩)
    · exact Or.inr (Or.inr ⟨hw, hl⟩)
  · exact Or.inl (Or.inl hw)

/-- The number of columns selected before column `c`. -/
def rank (w : Fin 2048 → ℝ) (c : Fin 2048) : ℕ := (Finset.univ.filter fun a => bef w a c).card

theorem rank_lt (c : Fin 2048) : rank w c < 2048 := by
  have h : (Finset.univ.filter fun a => bef w a c) ⊂ Finset.univ :=
    Finset.ssubset_univ_iff.mpr fun e => by
      have hc : c ∈ Finset.univ.filter fun a => bef w a c := by rw [e]; exact Finset.mem_univ c
      exact bef_irrefl c (Finset.mem_filter.mp hc).2
  simpa [rank] using Finset.card_lt_card h
theorem rank_lt_rank {a b : Fin 2048} (h : bef w a b) : rank w a < rank w b := by
  refine Finset.card_lt_card (Finset.ssubset_iff_subset_ne.mpr ⟨fun c hc => ?_, fun e => ?_⟩)
  · exact Finset.mem_filter.mpr ⟨Finset.mem_univ _, bef_trans (Finset.mem_filter.mp hc).2 h⟩
  · have : a ∈ Finset.univ.filter fun c => bef w c a := e ▸ Finset.mem_filter.mpr ⟨Finset.mem_univ _, h⟩
    exact bef_irrefl a (Finset.mem_filter.mp this).2
theorem bef_of_rank {a b : Fin 2048} (h : rank w a < rank w b) : bef w a b := by
  rcases eq_or_ne a b with e | e
  · subst e; exact absurd h (lt_irrefl _)
  · exact (bef_total e).resolve_right fun h' => absurd (rank_lt_rank h') (not_lt.mpr h.le)
theorem rank_inj {a b : Fin 2048} (h : rank w a = rank w b) : a = b := by
  by_contra e
  rcases bef_total (w := w) e with h' | h' <;> exact absurd (rank_lt_rank h') (by omega)
theorem exists_rank (w : Fin 2048 → ℝ) (n : Fin 2048) : ∃ c, rank w c = n.val := by
  have hi : Function.Injective fun c : Fin 2048 => (⟨rank w c, rank_lt c⟩ : Fin 2048) := fun a b e => rank_inj (Fin.mk.inj_iff.mp e)
  obtain ⟨c, hc⟩ := Finite.injective_iff_surjective.mp hi n
  exact ⟨c, congrArg Fin.val hc⟩

/-- The column of rank `n`. -/
def pick (w : Fin 2048 → ℝ) (n : Fin 2048) : Fin 2048 := (exists_rank w n).choose
theorem rank_pick (n : Fin 2048) : rank w (pick w n) = n.val := (exists_rank w n).choose_spec
theorem pick_eq {n c : Fin 2048} (h : rank w c = n.val) : pick w n = c := rank_inj (by rw [rank_pick, h])
theorem pick_inj {a b : Fin 2048} (h : pick w a = pick w b) : a = b := Fin.ext (by rw [← rank_pick (w := w) a, ← rank_pick (w := w) b, h])

/-- The row after `n` rounds: the selected columns hold -1. -/
def st (n : ℕ) (w : Fin 2048 → ℝ) (c : Fin 2048) : ℝ := if rank w c < n then -1 else w c

theorem st_zero (c : Fin 2048) : st 0 w c = w c := rfl

/-- What remains is at most the weight of the next column, which attains it and is the first to. -/
theorem st_le (hw : ∀ c, 0 < w c) (n : Fin 2048) (c : Fin 2048) : st n.val w c ≤ w (pick w n) := by
  unfold st
  split
  · exact (by norm_num : (-1 : ℝ) ≤ 0).trans (hw _).le
  next h =>
    rcases eq_or_ne c (pick w n) with e | e
    · rw [e]
    · rcases bef_total (w := w) e with hb | hb
      · exact absurd (rank_lt_rank hb) (by rw [rank_pick]; exact h)
      · rcases hb with hb | ⟨hb, _⟩
        · exact hb.le
        · exact hb.le
theorem st_pick (n : Fin 2048) : st n.val w (pick w n) = w (pick w n) := by
  unfold st; rw [rank_pick, if_neg (lt_irrefl _)]
theorem le_of_st_eq (hw : ∀ c, 0 < w c) (n : Fin 2048) (c : Fin 2048) (h : st n.val w c = w (pick w n)) : pick w n ≤ c := by
  rcases eq_or_ne c (pick w n) with e | e
  · rw [e]
  · unfold st at h
    split at h
    · exact absurd (hw (pick w n)) (by rw [← h]; norm_num)
    next hn =>
      rcases bef_total (w := w) e with hb | hb
      · exact absurd (rank_lt_rank hb) (by rw [rank_pick]; exact hn)
      · rcases hb with hb | ⟨_, hb⟩
        · exact absurd hb (by rw [h]; exact lt_irrefl _)
        · exact hb.le
/-- The next round's row. -/
theorem st_succ (n : Fin 2048) (c : Fin 2048) : (if c = pick w n then (-1 : ℝ) else st n.val w c) = st (n.val + 1) w c := by
  unfold st
  by_cases e : c = pick w n
  · rw [if_pos e, if_pos (by rw [e, rank_pick]; exact Nat.lt_succ_self _)]
  · have h : rank w c ≠ n.val := fun h => e (pick_eq h).symm
    rw [if_neg e]
    by_cases h' : rank w c < n.val
    · rw [if_pos h', if_pos (by omega)]
    · rw [if_neg h', if_neg (by omega)]
theorem st_neg (hw : ∀ c, 0 < w c) (n : ℕ) (c : Fin 2048) : st n w c < 0 ↔ rank w c < n := by
  unfold st
  split
  next h => exact ⟨fun _ => h, fun _ => by norm_num⟩
  next h => exact ⟨fun h' => absurd (hw c) (not_lt.mpr h'.le), fun h' => absurd h' h⟩

/-! ## The maximum and the first column holding it, as folds -/

theorem fold_max_coe (f : Fin 2048 → ℝ) (p : Fin 2048) (h : ∀ c, f c ≤ f p) :
    Finset.univ.fold max (⊥ : EReal) (fun c => ((f c : ℝ) : EReal)) = ((f p : ℝ) : EReal) := by
  refine le_antisymm ?_ ?_
  · exact Finset.fold_max_le _ |>.mpr ⟨bot_le, fun c _ => EReal.coe_le_coe_iff.mpr (h c)⟩
  · exact Finset.le_fold_max _ |>.mpr (Or.inr ⟨p, Finset.mem_univ _, le_rfl⟩)

theorem minsi_ofNat {a b : ℕ} (ha : a < 2 ^ 31) (hb : b < 2 ^ 31) : IntOp.minsi (BitVec.ofNat 32 a) (BitVec.ofNat 32 b) = BitVec.ofNat 32 (min a b) := by
  have h : ∀ c, c < 2 ^ 31 → (BitVec.ofNat 32 c).toInt = c := fun c hc => by
    rw [BitVec.toInt_eq_toNat_cond, BitVec.toNat_ofNat, Nat.mod_eq_of_lt (by omega), if_pos (by omega)]
  unfold IntOp.minsi
  simp only [BitVec.slt, h a ha, h b hb, decide_eq_true_eq, Nat.cast_lt]
  split
  next h' => rw [min_eq_left h'.le]
  next h' => rw [min_eq_right (not_lt.mp h')]
theorem fold_minsi (g : Fin 2048 → ℕ) (hg : ∀ c, g c < 2 ^ 31) (p : Fin 2048) (hp : ∀ c, g p ≤ g c) :
    Finset.univ.fold IntOp.minsi (2147483647#32) (fun c => BitVec.ofNat 32 (g c)) = BitVec.ofNat 32 (g p) := by
  have h : ∀ s : Finset (Fin 2048), s.fold IntOp.minsi (2147483647#32) (fun c => BitVec.ofNat 32 (g c)) = BitVec.ofNat 32 (s.fold min 2147483647 g) ∧ s.fold min 2147483647 g < 2 ^ 31 := by
    intro s
    induction s using Finset.induction_on with
    | empty => exact ⟨rfl, by rw [Finset.fold_empty]; norm_num⟩
    | insert a s ha ih =>
      rw [Finset.fold_insert ha, Finset.fold_insert ha, ih.1, minsi_ofNat (hg a) ih.2]
      exact ⟨rfl, (min_le_left _ _).trans_lt (hg a)⟩
  rw [(h _).1]
  refine congrArg _ (le_antisymm ?_ ?_)
  · exact Finset.fold_min_le _ |>.mpr (Or.inr ⟨p, Finset.mem_univ _, le_rfl⟩)
  · exact Finset.le_fold_min _ |>.mpr ⟨by have := hg p; omega, fun c _ => hp c⟩

/-! ## A stable descending sort -/

theorem stableSort_eq {n : ℕ} (R B : Fin n → Fin n → Bool) (h : ∀ a b, a < b → R b a = B b a) :
    ∀ l : List (Fin n), l.Pairwise (· < ·) → stableSort R l = stableSort B l
  | [], _ => rfl
  | a :: l, hl => by
    have hp := List.pairwise_cons.mp hl
    show insertBefore R a (stableSort R l) = insertBefore B a (stableSort B l)
    rw [← stableSort_eq R B h l hp.2]
    exact insertBefore_congr R B a _ fun b hb => h a b (hp.1 b ((perm_stableSort R l).mem_iff.mp hb))

theorem sortedFrom_of_positions {n : ℕ} {R B : Fin n → Fin n → Bool} (e : sortPositions n R = sortPositions n B) (r : Fin n) :
    sortedFrom R r = sortedFrom B r := List.get_of_eq e _

/-- A stable sort by "larger first" puts at place `r` the column of rank `r`. -/
theorem sortedFrom_eq_pick (w : Fin 2048 → ℝ) (R : Fin 2048 → Fin 2048 → Bool) (hR : ∀ a b, R a b = true ↔ w b < w a) (r : Fin 2048) :
    sortedFrom R r = pick w r := by
  have hB : StrictTotalBefore fun a b => decide (bef w a b) :=
    ⟨fun a => by simpa using bef_irrefl a, fun a b c h h' => by simp only [decide_eq_true_eq] at *; exact bef_trans h h',
      fun a b h => by simp only [decide_eq_true_eq]; exact bef_total h⟩
  have e : sortPositions 2048 R = sortPositions 2048 fun a b => decide (bef w a b) := by
    refine stableSort_eq _ _ (fun a b hab => ?_) _ (List.pairwise_lt_finRange 2048)
    rw [Bool.eq_iff_iff, hR, decide_eq_true_eq]
    exact ⟨Or.inl, fun h => h.resolve_right fun h' => absurd h'.2 (not_lt.mpr hab.le)⟩
  have e' : sortedFrom R r = sortedFrom (fun a b => decide (bef w a b)) r := by
    exact sortedFrom_of_positions e r
  rw [e']
  have h := hB.sortedFrom_eq_of_prefix (le_refl 2048) (pick w) (fun a b h => pick_inj h)
    (fun i j hij => by
      rw [decide_eq_false_iff_not]
      intro hb
      have := rank_lt_rank hb
      rw [rank_pick, rank_pick] at this
      exact absurd hij (not_lt.mpr (le_of_lt this)))
    (fun i p hp => absurd (pick_eq (n := ⟨rank w p, rank_lt p⟩) rfl) (hp _)) r
  exact h

end Cert.Val

end
-- ==== Proof.V.RPay.lean ====
/-
  Hand-written, untrusted. What the reference's operations compute of finite operands, as real numbers: the scaled distances,
  the normalized rows and the divergence.
-/
module

public import proofs.«01_k».proof.Proof.V.Spec
public import proofs.«01_k».proof.Proof.V.Order
public import proofs.«01_k».proof.Proof.Gen.ReferenceIdeal.Run

@[expose] public section

set_option maxRecDepth 16384

noncomputable section

namespace Cert.Val

open Idealize.ShloMosaic Cert.ReferenceIdeal Cert.ReferenceIdeal.Gen Cert.ReferenceIdeal.Value

/-- The distances of the rows of `x`. -/
def rD (x : FVec Ideal S2048x64 .f32) : FVec Ideal S2048x2048 .f32 :=
  Host.sqrt (maximumf (subf (addf (broadcastInDim S2048x2048 ![0, 1] bcast_S2048x1_S2048x2048_0_1 (broadcastInDim S2048x1 ![0] bcast_S2048_S2048x1_0 (Host.reduceAdd (mulf x x) (constant S_ .f32 0x00000000#32) reducesTo_S2048x64_S2048_d1 h_S_))) (broadcastInDim S2048x2048 ![0, 1] bcast_S1x2048_S2048x2048_0_1 (broadcastInDim S1x2048 ![1] bcast_S2048_S1x2048_1 (Host.reduceAdd (mulf x x) (constant S_ .f32 0x00000000#32) reducesTo_S2048x64_S2048_d1 h_S_)))) (mulf (broadcastInDim S2048x2048 ![] bcast_S_S2048x2048 (constant S_ .f32 0x40000000#32)) (Host.dotGeneral dot_S2048x64_S64x2048_S2048x2048_1_0_0_1_n_n none x (transpose S64x2048 [1, 0] x transposes_S2048x64_S64x2048_1_0)))) (broadcastInDim S2048x2048 ![] bcast_S_S2048x2048 (constant S_ .f32 0x2B8CBCCC#32)))
/-- A matrix over its rows' means. -/
def rS (d : FVec Ideal S2048x2048 .f32) : FVec Ideal S2048x2048 .f32 :=
  Host.divf d (broadcastInDim S2048x2048 ![0, 1] bcast_S2048x1_S2048x2048_0_1 (Host.divf (broadcastInDim S2048x1 ![0] bcast_S2048_S2048x1_0 (Host.reduceAdd d (constant S_ .f32 0x00000000#32) reducesTo_S2048x2048_S2048_d1 h_S_)) (broadcastInDim S2048x1 ![] bcast_S_S2048x1 (constant S_ .f32 0x45000000#32))))
/-- The rows of `x` over their bounded norms. -/
def rN (x : FVec Ideal S2048x64 .f32) : FVec Ideal S2048x64 .f32 :=
  Host.divf x (broadcastInDim S2048x64 ![0, 1] bcast_S2048x1_S2048x64_0_1 (maximumf (Host.sqrt (broadcastInDim S2048x1 ![0] bcast_S2048_S2048x1_0 (Host.reduceAdd (mulf x x) (constant S_ .f32 0x00000000#32) reducesTo_S2048x64_S2048_d1 h_S_))) (broadcastInDim S2048x1 ![] bcast_S_S2048x1 (constant S_ .f32 0x2B8CBCCC#32))))
def rB (d : FVec Ideal S2048x2048 .f32) : FVec Ideal S2048x2048 .f32 := Host.exp (Host.negf (mulf d d))
/-- The rows' maxima, and a matrix less its rows' maxima. -/
def rMx0 (a : FVec Ideal S2048x2048 .f32) : FVec Ideal S2048 .f32 :=
  Host.reduce FloatOps.maximumf a (constant S_ .f32 0xFF800000#32) reducesTo_S2048x2048_S2048_d1 h_S_
def rMx (a : FVec Ideal S2048x2048 .f32) : FVec Ideal S2048 .f32 :=
  maximumf (broadcastInDim S2048 ![] bcast_S_S2048 (constant S_ .f32 0xFF800000#32)) (rMx0 a)
theorem rMx0_apply (a : FVec Ideal S2048x2048 .f32) (i : Fin 2048) : rMx0 a (ix1 i) = Finset.univ.fold max (Ideal.ofBits .f32 0xFF800000#32) fun c => a (ix2 i c) := by
  pointwise [rMx0]
def rSub (a : FVec Ideal S2048x2048 .f32) (b : FVec Ideal S2048 .f32) : FVec Ideal S2048x2048 .f32 :=
  subf a (broadcastInDim S2048x2048 ![0, 1] bcast_S2048x1_S2048x2048_0_1 (broadcastInDim S2048x1 ![0] bcast_S2048_S2048x1_0 b))
def rP (e : FVec Ideal S2048x2048 .f32) : FVec Ideal S2048x2048 .f32 :=
  Host.divf e (broadcastInDim S2048x2048 ![0, 1] bcast_S2048x1_S2048x2048_0_1 (broadcastInDim S2048x1 ![0] bcast_S2048_S2048x1_0 (Host.reduceAdd e (constant S_ .f32 0x00000000#32) reducesTo_S2048x2048_S2048_d1 h_S_)))
def rKL (p q : FVec Ideal S2048x2048 .f32) : FVec Ideal S_ .f32 :=
  Host.divf (Host.reduceAdd (mulf p (subf (Host.log p) (subf q (broadcastInDim S2048x2048 ![0, 1] bcast_S2048x1_S2048x2048_0_1 (Host.log (broadcastInDim S2048x1 ![0] bcast_S2048_S2048x1_0 (Host.reduceAdd (Host.exp q) (constant S_ .f32 0x00000000#32) reducesTo_S2048x2048_S2048_d1 h_S_))))))) (constant S_ .f32 0x00000000#32) reducesTo_S2048x2048_S_d0_1 h_S_) (constant S_ .f32 0x45000000#32)

section
variable {x : FVec Ideal S2048x64 .f32} {X : Fin 2048 → Fin 64 → ℝ} (hx : ∀ i k, x (ix2 i k) = (X i k : EReal))
include hx

theorem rD_val (i j : Fin 2048) : rD x (ix2 i j) = ((dist X X i j : ℝ) : EReal) := by
  pointwise [rD]
  simp only [hx, ofBits_two, ofBits_eps, ← EReal.coe_mul, coe_sum, ← EReal.coe_add, ← EReal.coe_sub, coe_max, sqrt_max, dist, dd, dot, ← EReal.coe_zero, zero_add]

omit hx in
theorem rN_val (hx : Rows (fun i k => x (ix2 i k)) X) (i : Fin 2048) (k : Fin 64) : rN x (ix2 i k) = ((nrm X i k : ℝ) : EReal) := by
  have hx' : ∀ i k, Ideal.div (x (ix2 i k)) (max (Ideal.sqrt (∑ k, x (ix2 i k) * x (ix2 i k))) ((eps : ℝ) : EReal)) = ((nrm X i k : ℝ) : EReal) := hx
  pointwise [rN]
  simp only [ofBits_eps, zero_add, hx']
end

section
variable {d : FVec Ideal S2048x2048 .f32} {D : Fin 2048 → Fin 2048 → ℝ} (hd : ∀ i j, d (ix2 i j) = (D i j : EReal))
include hd

theorem rS_val (h : ∀ i, 0 < ∑ j, D i j) (i j : Fin 2048) : rS d (ix2 i j) = ((D i j * (2048 / ∑ j, D i j) : ℝ) : EReal) := by
  have h1 := coe_div (∑ j, D i j) (b := 2048) (by norm_num)
  have h2 := coe_div (D i j) (b := (∑ j, D i j) / 2048) (div_pos (h i) (by norm_num)).ne'
  pointwise [rS]
  simp only [hd, ofBits_count, coe_sum, ← EReal.coe_zero, ← EReal.coe_add, zero_add, h1, h2]
  rw [div_div_eq_mul_div, mul_div_assoc]

theorem rB_val (i j : Fin 2048) : rB d (ix2 i j) = ((Real.exp (-(D i j * D i j)) : ℝ) : EReal) := by
  pointwise [rB]
  simp only [hd, ← EReal.coe_mul, ← EReal.coe_neg, Ideal.exp_coe]

theorem rMx0_val (i : Fin 2048) (p : Fin 2048) (hp : ∀ c, D i c ≤ D i p) : rMx0 d (ix1 i) = ((D i p : ℝ) : EReal) := by
  refine (rMx0_apply d i).trans ?_
  have e : (fun c => d (ix2 i c)) = fun c => ((D i c : ℝ) : EReal) := funext fun c => hd i c
  exact (congrArg₂ (fun (z : EReal) (f : Fin 2048 → EReal) => Finset.univ.fold max z f) ofBits_bot e).trans (fold_max_coe (D i) p hp)
omit hd in
theorem max_bot_val (v : FVec Ideal S2048 .f32) (i : S2048.Idx) (a : ℝ) (e : v i = (a : EReal)) :
    maximumf (broadcastInDim S2048 ![] bcast_S_S2048 (constant (F := Ideal) S_ .f32 0xFF800000#32)) v i = (a : EReal) := by
  have hz : broadcastInDim S2048 ![] bcast_S_S2048 (constant (F := Ideal) S_ .f32 0xFF800000#32) i = (⊥ : EReal) := ofBits_bot
  generalize broadcastInDim S2048 ![] bcast_S_S2048 (constant (F := Ideal) S_ .f32 0xFF800000#32) = z at hz
  show max (z i) (v i) = _
  rw [hz, e]
  exact max_eq_right bot_le
theorem rMx_val (i : Fin 2048) (p : Fin 2048) (hp : ∀ c, D i c ≤ D i p) : rMx d (ix1 i) = ((D i p : ℝ) : EReal) := by
  unfold rMx
  exact max_bot_val _ _ _ (rMx0_val hd i p hp)

theorem rSub_val {b : FVec Ideal S2048 .f32} {M : Fin 2048 → ℝ} (hb : ∀ i, b (ix1 i) = (M i : EReal)) (i j : Fin 2048) :
    rSub d b (ix2 i j) = ((D i j - M i : ℝ) : EReal) := by
  pointwise [rSub]
  simp only [hd, hb, ← EReal.coe_sub]

theorem rP_val (h : ∀ i, 0 < ∑ j, D i j) (i j : Fin 2048) : rP d (ix2 i j) = ((D i j / ∑ j, D i j : ℝ) : EReal) := by
  have h1 := coe_div (D i j) (h i).ne'
  pointwise [rP]
  simp only [hd, coe_sum, ← EReal.coe_zero, ← EReal.coe_add, zero_add, h1]

theorem rKL_val {q : FVec Ideal S2048x2048 .f32} {Q : Fin 2048 → Fin 2048 → ℝ} (hq : ∀ i j, q (ix2 i j) = (Q i j : EReal)) (hp : ∀ i j, 0 < D i j) (z : S_.Idx) :
    rKL d q z = (((∑ i, ∑ j, D i j * (Real.log (D i j) - (Q i j - Real.log (∑ j, Real.exp (Q i j))))) / 2048 : ℝ) : EReal) := by
  have h1 := fun i j => coe_log (hp i j)
  have h2 : ∀ i, Ideal.log ((∑ j, Real.exp (Q i j) : ℝ) : EReal) = _ := fun i => coe_log (Finset.sum_pos (fun j _ => Real.exp_pos (Q i j)) ⟨0, Finset.mem_univ _⟩)
  have h3 := fun a => coe_div a (b := 2048) (by norm_num)
  pointwise [rKL]
  simp only [hd, hq, h1, Ideal.exp_coe, coe_sum, ← EReal.coe_zero, ← EReal.coe_add, zero_add, h2, ← EReal.coe_sub, ← EReal.coe_mul, ofBits_count, h3]
end

/-! ## The divergence -/

theorem exists_max (f : Fin 2048 → ℝ) : ∃ p, ∀ c, f c ≤ f p := Finite.exists_max f

/-- The divergence of two rows' softmaxes, their maxima subtracted, in terms of the rows themselves. -/
theorem kl_row (a b : Fin 2048 → ℝ) (m n : ℝ) :
    ∑ j, Real.exp (b j - n) / (∑ j, Real.exp (b j - n)) * (Real.log (Real.exp (b j - n) / (∑ j, Real.exp (b j - n))) - (a j - m - Real.log (∑ j, Real.exp (a j - m))))
      = ∑ j, Real.exp (b j) * (1 / ∑ j, Real.exp (b j)) * (b j - a j) + (Real.log (∑ j, Real.exp (a j)) - Real.log (∑ j, Real.exp (b j))) := by
  have e : ∀ (u : Fin 2048 → ℝ) (m : ℝ), ∑ j, Real.exp (u j - m) = (∑ j, Real.exp (u j)) * Real.exp (-m) := fun u m => by
    rw [Finset.sum_mul]; exact Finset.sum_congr rfl fun j _ => by rw [sub_eq_add_neg, Real.exp_add]
  have hp : ∀ u : Fin 2048 → ℝ, 0 < ∑ j, Real.exp (u j) := fun u => Finset.sum_pos (fun j _ => Real.exp_pos _) ⟨0, Finset.mem_univ _⟩
  have ep : ∀ j, Real.exp (b j - n) / (∑ j, Real.exp (b j - n)) = Real.exp (b j) * (1 / ∑ j, Real.exp (b j)) := fun j => by
    rw [e, sub_eq_add_neg, Real.exp_add, mul_div_mul_right _ _ (Real.exp_pos _).ne', mul_one_div]
  have el : Real.log (∑ j, Real.exp (a j - m)) = Real.log (∑ j, Real.exp (a j)) - m := by
    rw [e, Real.log_mul (hp a).ne' (Real.exp_pos _).ne', Real.log_exp]; ring
  have ew : ∀ j, Real.log (Real.exp (b j) * (1 / ∑ j, Real.exp (b j))) = b j - Real.log (∑ j, Real.exp (b j)) := fun j => by
    rw [mul_one_div, Real.log_div (Real.exp_pos _).ne' (hp b).ne', Real.log_exp]
  have es : ∑ j, Real.exp (b j) * (1 / ∑ j, Real.exp (b j)) = 1 := by
    rw [← Finset.sum_mul, mul_one_div, div_self (hp b).ne']
  simp only [ep, el, ew]
  generalize Real.log (∑ j, Real.exp (a j)) = A
  generalize Real.log (∑ j, Real.exp (b j)) = B
  calc _ = ∑ j, (Real.exp (b j) * (1 / ∑ j, Real.exp (b j)) * (b j - a j) + Real.exp (b j) * (1 / ∑ j, Real.exp (b j)) * (A - B)) :=
        Finset.sum_congr rfl fun j _ => by ring
    _ = _ := by rw [Finset.sum_add_distrib, ← Finset.sum_mul (f := fun j => Real.exp (b j) * (1 / ∑ j, Real.exp (b j))), es, one_mul]

/-- The reference's divergence of the rows of `x` and `y`. -/
def rA (x : FVec Ideal S2048x64 .f32) : FVec Ideal S2048x2048 .f32 := Host.negf (rS (rD x))

section
variable {x : FVec Ideal S2048x64 .f32} {X : Fin 2048 → Fin 64 → ℝ} (hx : ∀ i k, x (ix2 i k) = (X i k : EReal))
include hx
theorem sn_val (i j : Fin 2048) : rS (rD x) (ix2 i j) = ((sn X X i j : ℝ) : EReal) :=
  rS_val (rD_val hx) (rs_pos X X) i j
theorem rA_val (i j : Fin 2048) : rA x (ix2 i j) = ((-sn X X i j : ℝ) : EReal) := by
  have h := sn_val hx
  unfold rA
  generalize rS (rD x) = s at h
  pointwise []
  rw [h, ← EReal.coe_neg]

theorem kl_val {y : FVec Ideal S2048x64 .f32} {Y : Fin 2048 → Fin 64 → ℝ} (hy : ∀ i k, y (ix2 i k) = (Y i k : EReal)) (z : S_.Idx) :
    rKL (rP (Host.exp (rSub (rA y) (rMx (rA y))))) (rSub (rA x) (rMx (rA x))) z = ((klT X X Y Y / 2048 : ℝ) : EReal) := by
  choose p hp using fun i => exists_max fun c => -sn X X i c
  choose q hq using fun i => exists_max fun c => -sn Y Y i c
  have ha := rSub_val (rA_val hx) (fun i => rMx_val (rA_val hx) i (p i) (hp i))
  have hb := rSub_val (rA_val hy) (fun i => rMx_val (rA_val hy) i (q i) (hq i))
  have he : ∀ i j, Host.exp (rSub (rA y) (rMx (rA y))) (ix2 i j) = ((Real.exp (-sn Y Y i j - -sn Y Y i (q i)) : ℝ) : EReal) := fun i j => by
    generalize rSub (rA y) (rMx (rA y)) = v at hb
    pointwise []
    rw [hb, Ideal.exp_coe]
  have hs : ∀ i, 0 < ∑ j, Real.exp (-sn Y Y i j - -sn Y Y i (q i)) := fun i => Finset.sum_pos (fun j _ => Real.exp_pos _) ⟨0, Finset.mem_univ _⟩
  rw [rKL_val (rP_val he hs) ha (fun i j => div_pos (Real.exp_pos _) (hs i)) z]
  refine congrArg (fun a : ℝ => ((a / 2048 : ℝ) : EReal)) ?_
  unfold klT
  rw [← Finset.sum_add_distrib]
  refine Finset.sum_congr rfl fun i _ => (kl_row _ _ _ _).trans ?_
  unfold se
  refine congrArg (· + _) (Finset.sum_congr rfl fun j _ => ?_)
  ring
end

end Cert.Val

end
-- ==== Proof.V.RGat.lean ====
/-
  Hand-written, untrusted. Rows taken by a table of row numbers, read at an index; the first places of a stable descending order,
  read as row numbers.
-/
module

public import proofs.«01_k».proof.Proof.V.Spec
public import proofs.«01_k».proof.Proof.V.Order
public import proofs.«01_k».proof.Proof.Gen.ReferenceIdeal.Run
public import Idealize.ShloMosaic.Lib.Routing.Ops
public import Idealize.ShloMosaic.Lib.Routing.OpsSet

@[expose] public section

set_option maxRecDepth 16384

noncomputable section

namespace Cert.Val

open Idealize.ShloMosaic Cert.ReferenceIdeal Cert.ReferenceIdeal.Gen Cert.ReferenceIdeal.Value

/-- Entry `(r, q, c)` of the rows taken is the table's entry at the row number that the index table holds at `(r, q)`. -/
theorem gather5_val {α : Type} (x : S2048x2048.Idx → α) (idx : IVec S2048x5x1 32) (r : Fin 2048) (q : Fin 5) (c p : Fin 2048)
    (h : idx (ix3 r q 0) = BitVec.ofNat 32 p.val) :
    Host.gather gather_S2048x2048_S2048x5x1_S2048x5x2048_2_0_n_n_0_2_12048 x idx (ix3 r q c) = x (ix2 p c) := by
  have hm : (0 : Fin 2) ∈ (gather_S2048x2048_S2048x5x1_S2048x5x2048_2_0_n_n_0_2_12048).startIndexMap := List.mem_singleton.2 rfl
  have hn : (1 : Fin 2) ∉ (gather_S2048x2048_S2048x5x1_S2048x5x2048_2_0_n_n_0_2_12048).startIndexMap := fun h => absurd (List.mem_singleton.1 h) (by decide)
  have hi : (gather_S2048x2048_S2048x5x1_S2048x5x2048_2_0_n_n_0_2_12048).siIdx (ix3 r q c) ⟨List.idxOf 0 (gather_S2048x2048_S2048x5x1_S2048x5x2048_2_0_n_n_0_2_12048).startIndexMap, List.idxOf_lt_length_iff.2 hm⟩ = ix3 r q 0 := by
    funext b
    apply Fin.ext
    match b with
    | ⟨0, _⟩ => rfl
    | ⟨1, _⟩ => rfl
    | ⟨2, _⟩ => rfl
  have hk : (1 : Fin 2) ∈ (gather_S2048x2048_S2048x5x1_S2048x5x2048_2_0_n_n_0_2_12048).sKept := ((gather_S2048x2048_S2048x5x1_S2048x5x2048_2_0_n_n_0_2_12048).mem_sKept 1).2 ⟨fun h => absurd (List.mem_singleton.1 h) (by decide), List.not_mem_nil⟩
  unfold Host.gather
  refine congrArg x (funext fun a => Fin.ext ?_)
  match a with
  | ⟨0, _⟩ =>
    show (gather_S2048x2048_S2048x5x1_S2048x5x2048_2_0_n_n_0_2_12048).start (ix3 r q c) idx 0 + (gather_S2048x2048_S2048x5x1_S2048x5x2048_2_0_n_n_0_2_12048).batchCoord (ix3 r q c) 0 + (gather_S2048x2048_S2048x5x1_S2048x5x2048_2_0_n_n_0_2_12048).offCoord (ix3 r q c) 0 = p.val
    rw [GatherDims.batchCoord_eq_zero _ _ _ (List.not_mem_nil), GatherDims.offCoord_eq_zero _ _ _ (fun h => ((GatherDims.mem_sKept _ 0).1 h).1 (List.mem_singleton.2 rfl))]
    unfold GatherDims.start
    rw [dif_pos hm, hi, h, StableHlo.Predicate.toInt_ofNat_small _ (by have := p.isLt; omega)]
    show min ((p.val : Int)).toNat (2048 - 1) + 0 + 0 = p.val
    have := p.isLt
    omega
  | ⟨1, _⟩ =>
    show (gather_S2048x2048_S2048x5x1_S2048x5x2048_2_0_n_n_0_2_12048).start (ix3 r q c) idx 1 + (gather_S2048x2048_S2048x5x1_S2048x5x2048_2_0_n_n_0_2_12048).batchCoord (ix3 r q c) 1 + (gather_S2048x2048_S2048x5x1_S2048x5x2048_2_0_n_n_0_2_12048).offCoord (ix3 r q c) 1 = c.val
    rw [GatherDims.batchCoord_eq_zero _ _ _ (List.not_mem_nil)]
    unfold GatherDims.start GatherDims.offCoord
    rw [dif_neg hn, dif_pos hk, Nat.add_zero, Nat.zero_add]
    rfl

section
variable {α : Type} {A B K : ℕ}

theorem along_ix2 (r : Fin A) (c k : Fin B) : Shape.Idx.along (s := ⟨2, ![A, B]⟩) (ix2 r c) 1 k = ix2 r k := by
  funext a
  match a with
  | ⟨0, _⟩ => rfl
  | ⟨1, _⟩ => rfl

/-- The places of the greatest along the second axis, as words. -/
theorem topK_at (gt : α → α → BitVec 1) (v : Shape.Idx ⟨2, ![A, B]⟩ → α) (h : Shape.Slices ⟨2, ![A, B]⟩ (fun _ => 0) ⟨2, ![A, K]⟩) (hk : K ≤ B) (r : Fin A) (q : Fin K) :
    (Host.topK ⟨2, ![A, K]⟩ 1 gt v h).2 (ix2 r q) = BitVec.ofNat 32 (sortedFrom (fun a b => gt (v (ix2 r a)) (v (ix2 r b)) == 1#1) (q.castLE hk)).val := by
  have e : ∀ y : IVec ⟨2, ![A, B]⟩ 32, extractStridedSlice ⟨2, ![A, K]⟩ (fun _ => 0) y h (ix2 r q) = y (ix2 r (q.castLE hk)) := fun y => by
    refine congrArg y (funext fun a => Fin.ext ?_)
    match a with
    | ⟨0, _⟩ => show 0 + r.val = r.val; omega
    | ⟨1, _⟩ => show 0 + q.val = q.val; omega
  unfold Host.topK
  dsimp only
  rw [e]
  unfold Host.sort2
  rw [dif_pos (show 1 < Shape.rank ⟨2, ![A, B]⟩ from Nat.lt_succ_self 1)]
  show BitVec.ofNat 32 (sortedFrom (fun a b => gt (v (Shape.Idx.along (s := ⟨2, ![A, B]⟩) (ix2 r (q.castLE hk)) 1 a)) (v (Shape.Idx.along (s := ⟨2, ![A, B]⟩) (ix2 r (q.castLE hk)) 1 b)) == 1#1) (q.castLE hk)).val = _
  exact congrArg (fun f => BitVec.ofNat 32 (sortedFrom f (q.castLE hk)).val)
    (funext fun a => funext fun b => congrArg₂ (fun i j => gt (v i) (v j) == 1#1) (along_ix2 _ _ _) (along_ix2 _ _ _))
end

/-- The place `q` of the ten greatest of a row, as a word: the column of rank `q`. -/
theorem topk_val (v : FVec Ideal S2048x2048 .f32) (w : Fin 2048 → Fin 2048 → ℝ) (hv : ∀ i j, v (ix2 i j) = ((w i j : ℝ) : EReal)) (r : Fin 2048) (q : Fin 10) :
    (Host.topK S2048x10 1 (FloatOps.cmpfTotal .gt) v sliceFits_S2048x2048_S2048x10).2 (ix2 r q) = BitVec.ofNat 32 (pick (w r) (q.castLE (by decide))).val := by
  refine (topK_at (FloatOps.cmpfTotal .gt) v sliceFits_S2048x2048_S2048x10 (by decide) r q).trans ?_
  rw [sortedFrom_eq_pick (w r) _ fun a b => ?_]
  rw [hv, hv]
  show (Ideal.cmp .ogt ((w r a : ℝ) : EReal) ((w r b : ℝ) : EReal) == 1#1) = true ↔ _
  simp only [Ideal.cmp, EReal.coe_lt_coe_iff]
  by_cases h : w r b < w r a <;> simp [h]

/-! ## The selection as a matrix -/

/-- A row number or a column number below 2048 is not wrapped. -/
theorem wrap_word (n : Fin 2048) : Scalar.select (IntOp.cmpi .slt (BitVec.ofNat 32 n.val) 0#32) (IntOp.addi (BitVec.ofNat 32 n.val) 2048#32) (BitVec.ofNat 32 n.val) = BitVec.ofNat 32 n.val :=
  Routing.wrap_of_lt _ _ (by rw [BitVec.toNat_ofNat]; have := n.isLt; omega)

/-- The row numbers and the columns of the first ten places, as pairs of words. -/
def rIdx (k : IVec S2048x10 32) : IVec S2048x10x2 32 :=
  concatenate S2048x10x2 2 [⟨S2048x10x1, (broadcastInDim S2048x10x1 ![0, 1] bcast_S2048x10_S2048x10x1_0_1 (broadcastInDim S2048x10 ![0, 1] bcast_S2048x1_S2048x10_0_1 (select (cmpi .slt (broadcastInDim S2048x1 ![0] bcast_S2048_S2048x1_0 (iotaInDim S2048 32 0)) (broadcastInDim S2048x1 ![] bcast_S_S2048x1 (constantI S_ 32 0#32))) (addi (broadcastInDim S2048x1 ![0] bcast_S2048_S2048x1_0 (iotaInDim S2048 32 0)) (broadcastInDim S2048x1 ![] bcast_S_S2048x1 (constantI S_ 32 2048#32))) (broadcastInDim S2048x1 ![0] bcast_S2048_S2048x1_0 (iotaInDim S2048 32 0)))))⟩, ⟨S2048x10x1, (broadcastInDim S2048x10x1 ![0, 1] bcast_S2048x10_S2048x10x1_0_1 (select (cmpi .slt k (broadcastInDim S2048x10 ![] bcast_S_S2048x10 (constantI S_ 32 0#32))) (addi k (broadcastInDim S2048x10 ![] bcast_S_S2048x10 (constantI S_ 32 2048#32))) k))⟩] concatenates_S2048x10x1_S2048x10x1_S2048x10x2_d2
def rSel (k : IVec S2048x10 32) : FVec Ideal S2048x2048 .f32 :=
  Host.scatter scatter_S2048x2048_S2048x10x2_S2048x10_n_01_01_2 (fun _ b => b) (broadcastInDim S2048x2048 ![] bcast_S_S2048x2048 (constant S_ .f32 0x00000000#32)) (rIdx k) (broadcastInDim S2048x10 ![] bcast_S_S2048x10 (constant S_ .f32 0x3F800000#32))

section
variable {k : IVec S2048x10 32} {P : Fin 2048 → Fin 10 → Fin 2048} (hk : ∀ r q, k (ix2 r q) = BitVec.ofNat 32 (P r q).val)
omit hk in
theorem rIdx_row (r : Fin 2048) (q : Fin 10) : rIdx k (ix3 r q 0) = BitVec.ofNat 32 r.val := by
  pointwise [rIdx]
  exact wrap_word r
include hk
theorem rIdx_col (r : Fin 2048) (q : Fin 10) : rIdx k (ix3 r q 1) = BitVec.ofNat 32 (P r q).val := by
  pointwise [rIdx]
  rw [hk]
  exact wrap_word _

theorem lands (a r c : Fin 2048) (b : Fin 10) :
    (scatter_S2048x2048_S2048x10x2_S2048x10_n_01_01_2).resultIdx? (ix2 a b) (rIdx k) = some (ix2 r c) ↔ a = r ∧ P a b = c := by
  rw [ix2_eq_valueIdx a b, ix2_eq_valueIdx r c]
  refine (Routing.scatter_lands2 scatter_S2048x2048_S2048x10x2_S2048x10_n_01_01_2 rfl rfl rfl (rIdx k) a b r c).trans ?_
  have h0 := rIdx_row (k := k) a b
  have h1 := rIdx_col hk a b
  rw [ix3_eq_valueIdx] at h0 h1
  rw [h0, h1, StableHlo.Predicate.toInt_ofNat_small _ (by have := a.isLt; omega), StableHlo.Predicate.toInt_ofNat_small _ (by have := (P a b).isLt; omega)]
  rw [Fin.ext_iff, Fin.ext_iff]
  omega

theorem rSel_val (r c : Fin 2048) : rSel k (ix2 r c) = (((if ∃ q, P r q = c then 1 else 0 : ℝ)) : EReal) := by
  unfold rSel
  have ix : ∀ j : S2048x10.Idx, ∃ a b, j = ix2 a b := fun j => ⟨j 0, j 1, eq_ix2 j⟩
  split
  next h =>
    obtain ⟨q, hq⟩ := h
    refine (Routing.scatter_set_hit _ _ _ _ _ (Ideal.ofBits .f32 0x3F800000#32) (fun j _ => ?_) (ix2 r q) ((lands hk r r c q).2 ⟨rfl, hq⟩)).trans ofBits_one
    pointwise []
  next h =>
    refine (Routing.scatter_set_miss _ _ _ _ _ fun j hj => ?_).trans ?_
    · obtain ⟨a, b, rfl⟩ := ix j
      obtain ⟨rfl, hb⟩ := (lands hk a r c b).1 hj
      exact h ⟨b, hb⟩
    · pointwise []
      exact EReal.coe_zero.symm
end

theorem exists_pick_iff (w : Fin 2048 → ℝ) (c : Fin 2048) (n : ℕ) (hn : n ≤ 2048) : (∃ q : Fin n, pick w (q.castLE hn) = c) ↔ rank w c < n := by
  constructor
  · rintro ⟨q, rfl⟩
    rw [rank_pick]
    exact q.isLt
  · intro h
    exact ⟨⟨rank w c, h⟩, pick_eq rfl⟩

/-- The mean of the rows at the first five places. -/
theorem sum_pick (w : Fin 2048 → ℝ) (u : Fin 2048 → ℝ) : ∑ q : Fin 5, u (pick w (q.castLE (by decide))) = ∑ k, (if rank w k < 5 then 1 else 0) * u k := by
  simp only [ite_mul, one_mul, zero_mul]
  rw [← Finset.sum_filter]
  refine Finset.sum_bij (fun q _ => pick w (q.castLE (by decide))) (fun q _ => ?_) (fun a _ b _ h => ?_) (fun c hc => ?_) (fun q _ => rfl)
  · rw [Finset.mem_filter, rank_pick]
    exact ⟨Finset.mem_univ _, q.isLt⟩
  · have := pick_inj h
    have h' := congrArg Fin.val this
    exact Fin.ext h'
  · obtain ⟨q, hq⟩ := (exists_pick_iff w c 5 (by decide)).2 (Finset.mem_filter.1 hc).2
    exact ⟨q, Finset.mem_univ _, hq⟩

end Cert.Val

end
-- ==== Proof.V.KPay.lean ====
/-
  Hand-written, untrusted. What the kernel's blocks of operations compute of finite operands, as real numbers.
-/
module

public import proofs.«01_k».proof.Proof.V.Spec
public import proofs.«01_k».proof.Proof.KI.Body

@[expose] public section

set_option maxRecDepth 16384

noncomputable section

namespace Cert.Val

open Idealize.ShloMosaic Cert.KernelIdeal Cert.KernelIdeal.Gen Cert.KernelIdeal.Hand

variable {x : FVec Ideal S256x64 .f32} {y : FVec Ideal S2048x64 .f32} {X : Fin 256 → Fin 64 → ℝ} {Y : Fin 2048 → Fin 64 → ℝ}

/-! ## Scaled distances of a block of rows -/

theorem pay27 (hx : ∀ i k, x (ix2 i k) = (X i k : EReal)) (hy : ∀ i k, y (ix2 i k) = (Y i k : EReal)) (i : Fin 256) (j : Fin 2048) :
    k0_pay27 (F := Ideal) x y (ix2 i j) = ((dot X X i i + dot Y Y j j : ℝ) : EReal) := by
  pointwise [k0_pay27]
  simp only [hx, hy, ← EReal.coe_mul, coe_sum, ← EReal.coe_add, dot]

theorem snF_val (hx : ∀ i k, x (ix2 i k) = (X i k : EReal)) (hy : ∀ i k, y (ix2 i k) = (Y i k : EReal)) (i : Fin 256) (j : Fin 2048) :
    snF (F := Ideal) x y (ix2 i j) = ((sn X Y i j : ℝ) : EReal) := by
  unfold snF
  have hd := coe_div 2048 (rs_pos X Y i).ne'
  simp only [dist, dd, dot] at hd
  pointwise [k0_pay32, k0_pay28, k0_pay29, k0_pay30, k0_pay31]
  simp only [pay27 hx hy]
  simp only [hx, hy, ofBits_two, ofBits_eps, ofBits_count, ← EReal.coe_sub, sub_self, ← EReal.coe_mul, mul_zero, zero_mul, coe_sum, Finset.sum_const_zero,
    ← EReal.coe_add, add_zero, coe_max, sqrt_max, dot, hd, sn, dist, dd]

theorem lseF_val (hx : ∀ i k, x (ix2 i k) = (X i k : EReal)) (hy : ∀ i k, y (ix2 i k) = (Y i k : EReal)) (i : Fin 256) :
    lseF (F := Ideal) x y (ix2 i 0) = ((Real.log (se X Y i) : ℝ) : EReal) := by
  have h := snF_val hx hy
  unfold snF at h
  have hl := coe_log (se_pos X Y i)
  simp only [se] at hl
  unfold lseF
  pointwise [k0_pay33]
  simp only [h, ← EReal.coe_zero, ← EReal.coe_sub, zero_sub, ← EReal.coe_neg, Ideal.exp_coe, coe_sum, hl, se]

theorem lossF_val {p q : FVec Ideal S256x2048 .f32} {P Q : Fin 256 → Fin 2048 → ℝ} (hp : ∀ i j, p (ix2 i j) = (P i j : EReal)) (hq : ∀ i j, q (ix2 i j) = (Q i j : EReal))
    (hx : ∀ i k, x (ix2 i k) = (X i k : EReal)) (hy : ∀ i k, y (ix2 i k) = (Y i k : EReal)) :
    lossF (F := Ideal) p q x y (ix2 0 0) = ((rcT (sn X Y) P Q : ℝ) : EReal) := by
  have h := snF_val hx hy
  unfold snF at h
  unfold lossF
  pointwise [k0_pay34]
  simp only [h, hp, hq, ← EReal.coe_zero, ← EReal.coe_one, ← EReal.coe_sub, coe_max, ← EReal.coe_mul, ← EReal.coe_add, coe_sum, rcT]

theorem pay37 (hx : ∀ i k, x (ix2 i k) = (X i k : EReal)) (hy : ∀ i k, y (ix2 i k) = (Y i k : EReal)) (i : Fin 256) (j : Fin 2048) :
    k0_pay37 (F := Ideal) x y (k0_pay35 x) (k0_pay36 y) (ix2 i j) = ((sn X Y i j : ℝ) : EReal) := by
  have hd := coe_div 2048 (rs_pos X Y i).ne'
  simp only [dist, dd, dot] at hd
  pointwise [k0_pay37, k0_pay35, k0_pay36]
  simp only [hx, hy, ofBits_two, ofBits_eps, ofBits_count, ← EReal.coe_sub, sub_self, ← EReal.coe_mul, mul_zero, zero_mul, coe_sum, Finset.sum_const_zero,
    ← EReal.coe_add, add_zero, coe_max, sqrt_max, dot, hd, sn, dist, dd]

theorem lossG_val {p q : FVec Ideal S256x2048 .f32} {P Q : Fin 256 → Fin 2048 → ℝ} (hp : ∀ i j, p (ix2 i j) = (P i j : EReal)) (hq : ∀ i j, q (ix2 i j) = (Q i j : EReal))
    (hx : ∀ i k, x (ix2 i k) = (X i k : EReal)) (hy : ∀ i k, y (ix2 i k) = (Y i k : EReal)) (a : FVec Ideal S1x1 .f32) (A : ℝ) (ha : a (ix2 0 0) = (A : EReal)) :
    k0_pay46 (F := Ideal) (lossG p q x y) a (ix2 0 0) = ((A + rcT (sn X Y) P Q : ℝ) : EReal) := by
  have h := pay37 hx hy
  unfold lossG
  pointwise [k0_pay46, k0_pay41]
  simp only [h, ha, hp, hq, ← EReal.coe_zero, ← EReal.coe_one, ← EReal.coe_sub, coe_max, ← EReal.coe_mul, ← EReal.coe_add, coe_sum, rcT]

theorem pay38 (hx : ∀ i k, x (ix2 i k) = (X i k : EReal)) (hy : ∀ i k, y (ix2 i k) = (Y i k : EReal)) (i : Fin 256) (j : Fin 2048) :
    k0_pay38 (F := Ideal) x y (k0_pay35 x) (k0_pay36 y) (ix2 i j) = ((Real.exp (-sn X Y i j) : ℝ) : EReal) := by
  have h := pay37 hx hy
  pointwise [k0_pay38]
  simp only [h, ← EReal.coe_zero, ← EReal.coe_sub, zero_sub, ← EReal.coe_neg, Ideal.exp_coe]
theorem pay39 (hx : ∀ i k, x (ix2 i k) = (X i k : EReal)) (hy : ∀ i k, y (ix2 i k) = (Y i k : EReal)) (i : Fin 256) :
    k0_pay39 (F := Ideal) x y (k0_pay35 x) (k0_pay36 y) (ix2 i 0) = ((se X Y i : ℝ) : EReal) := by
  have h := pay38 hx hy
  pointwise [k0_pay39]
  simp only [h, coe_sum, se]
theorem pay40 (hx : ∀ i k, x (ix2 i k) = (X i k : EReal)) (hy : ∀ i k, y (ix2 i k) = (Y i k : EReal)) (i : Fin 256) :
    k0_pay40 (F := Ideal) x y (k0_pay35 x) (k0_pay36 y) (ix2 i 0) = ((Real.log (se X Y i) : ℝ) : EReal) := by
  have h := pay39 hx hy
  pointwise [k0_pay40]
  simp only [h, coe_log (se_pos X Y i)]

theorem klStep_val {x' : FVec Ideal S256x64 .f32} {y' : FVec Ideal S2048x64 .f32} {X' : Fin 256 → Fin 64 → ℝ} {Y' : Fin 2048 → Fin 64 → ℝ}
    (hx : ∀ i k, x (ix2 i k) = (X i k : EReal)) (hy : ∀ i k, y (ix2 i k) = (Y i k : EReal))
    (hx' : ∀ i k, x' (ix2 i k) = (X' i k : EReal)) (hy' : ∀ i k, y' (ix2 i k) = (Y' i k : EReal)) (a : FVec Ideal S1x1 .f32) (A : ℝ) (ha : a (ix2 0 0) = (A : EReal)) :
    klStep (F := Ideal) x y x' y' a (ix2 0 0) = ((A + klT X Y X' Y' : ℝ) : EReal) := by
  have hd : ∀ i, _ := fun i => coe_div 1 (se_pos X' Y' i).ne'
  unfold klStep
  pointwise [k0_pay47]
  simp only [snF_val hx hy, lseF_val hx hy, pay37 hx' hy', pay38 hx' hy', pay39 hx' hy', pay40 hx' hy', ha, ← EReal.coe_one, hd, ← EReal.coe_sub, ← EReal.coe_mul, ← EReal.coe_add, coe_sum, Finset.sum_const, Finset.card_univ, Fintype.card_fin, one_smul, klT]

end Cert.Val

end
-- ==== Proof.V.KSel.lean ====
/-
  Hand-written, untrusted. The kernel's ten rounds of selection on one block of rows: after `n` rounds the selected columns
  hold -1, and the selected columns are those of rank below `n`.
-/
module

public import proofs.«01_k».proof.Proof.V.KPay
public import proofs.«01_k».proof.Proof.V.Order

@[expose] public section

set_option maxRecDepth 16384

noncomputable section

namespace Cert.Val

open Idealize.ShloMosaic Cert.KernelIdeal Cert.KernelIdeal.Gen Cert.KernelIdeal.Hand

/-! ## One round -/

/-- Where a row holds its maximum. -/
def qV (v : FVec Ideal S512x2048 .f32) : IVec S512x2048 1 :=
  cmpf .oeq v (broadcastTo S512x2048 (shapeCast S512x1 (multiReduction .maximumf [1] S512 v 0xFF800000#32 reduces_S512x2048_S512 (.inl rfl) rfl) shapeCasts_S512_S512x1) broadcasts_S512x1_S512x2048)
/-- The first marked column of each row. -/
def amV (q : IVec S512x2048 1) : IVec S512x1 32 :=
  shapeCast S512x1 (multiReductionI .minsi [1] S512 (select q io512 (broadcast S512x2048 2048#32)) 2147483647#32 reduces_S512x2048_S512 rfl) shapeCasts_S512_S512x1
def eqV (a : IVec S512x1 32) : IVec S512x2048 1 := cmpi .eq io512 (broadcastTo S512x2048 a broadcasts_S512x1_S512x2048)
def rmV (e : IVec S512x2048 1) (v : FVec Ideal S512x2048 .f32) : FVec Ideal S512x2048 .f32 :=
  select e (broadcast S512x2048 (Scalar.ofBits (F := Ideal) .f32 0xBF800000#32)) v
def stepV (v : FVec Ideal S512x2048 .f32) : FVec Ideal S512x2048 .f32 := rmV (eqV (amV (qV v))) v
/-- The weights of a block of rows. -/
def wV (b : FVec Ideal S512x2048 .f32) (ic : IVec S512x1 32) (ir : IVec S1x2048 32) : FVec Ideal S512x2048 .f32 :=
  select (cmpi .eq (broadcastTo S512x2048 (shapeCast S512x1 ic shapeCasts_S512x1_S512x1) broadcasts_S512x1_S512x2048) (broadcastTo S512x2048 (shapeCast S1x2048 ir shapeCasts_S1x2048_S1x2048) broadcasts_S1x2048_S512x2048))
    (broadcast S512x2048 (Scalar.ofBits (F := Ideal) .f32 0x3F800000#32))
    (exp (subf (broadcast S512x2048 (Scalar.ofBits (F := Ideal) .f32 0x00000000#32)) (maximumf b (broadcast S512x2048 (Scalar.ofBits (F := Ideal) .f32 0x2B8CBCCC#32)))))

theorem pay11_eq (b : FVec Ideal S512x2048 .f32) (ic : IVec S512x1 32) (ir : IVec S1x2048 32) : k0_pay11 (F := Ideal) b ic ir = stepV (stepV (wV b ic ir)) := rfl
theorem pay12_eq (b : FVec Ideal S512x2048 .f32) (ic : IVec S512x1 32) (ir : IVec S1x2048 32) : k0_pay12 (F := Ideal) b ic ir = qV (k0_pay11 b ic ir) := rfl
theorem pay13_eq (v : FVec Ideal S512x2048 .f32) (q : IVec S512x2048 1) : k0_pay13 (F := Ideal) io512 v q 2048#32 = stepV (stepV (rmV (eqV (amV q)) v)) := rfl
theorem pay14_eq (v : FVec Ideal S512x2048 .f32) (q : IVec S512x2048 1) : k0_pay14 (F := Ideal) io512 v q 2048#32 = cmpf .olt (k0_pay13 (F := Ideal) io512 v q 2048#32) (broadcast S512x2048 (Scalar.ofBits (F := Ideal) .f32 0x00000000#32)) := rfl
theorem pay15_eq (v : FVec Ideal S512x2048 .f32) (q : IVec S512x2048 1) : k0_pay15 (F := Ideal) io512 v q 2048#32 = eqV (amV (qV (k0_pay13 (F := Ideal) io512 v q 2048#32))) := rfl
theorem pay17_eq (v : FVec Ideal S512x2048 .f32) (e : IVec S512x2048 1) : k0_pay17 (F := Ideal) io512 v e (k0_pay16 (F := Ideal)) = stepV (stepV (stepV (rmV e v))) := rfl
theorem pay18_eq (v : FVec Ideal S512x2048 .f32) (e : IVec S512x2048 1) : k0_pay18 (F := Ideal) io512 v e (k0_pay16 (F := Ideal)) = amV (qV (k0_pay17 (F := Ideal) io512 v e (k0_pay16 (F := Ideal)))) := rfl
theorem pay1_eq (v : FVec Ideal S512x2048 .f32) (a : IVec S512x1 32) : k0_pay1 (F := Ideal) io512 v a = sitofp .f32 (extui 32 (cmpf .olt (rmV (eqV a) v) (broadcast S512x2048 (Scalar.ofBits (F := Ideal) .f32 0x00000000#32))) natLt_1_32) := rfl

theorem qV_val (v : FVec Ideal S512x2048 .f32) (i : Fin 512) (f : Fin 2048 → ℝ) (p : Fin 2048) (hv : ∀ c, v (ix2 i c) = ((f c : ℝ) : EReal)) (hp : ∀ c, f c ≤ f p) (j : Fin 2048) :
    qV v (ix2 i j) = BitVec.ofBool (decide (f j = f p)) := by
  pointwise [qV]
  simp only [hv, ofBits_bot, fold_max_coe f p hp, EReal.coe_eq_coe_iff]

theorem amV_val (q : IVec S512x2048 1) (i : Fin 512) (Q : Fin 2048 → Prop) [DecidablePred Q] (p : Fin 2048) (hq : ∀ c, q (ix2 i c) = BitVec.ofBool (decide (Q c))) (hp : Q p) (hl : ∀ c, Q c → p ≤ c) :
    amV q (ix2 i 0) = BitVec.ofNat 32 p.val := by
  pointwise [amV]
  simp only [hq]
  have h : ∀ c : Fin 2048, Scalar.select (BitVec.ofBool (decide (Q c))) (BitVec.ofNat 32 c.val) 2048#32 = BitVec.ofNat 32 (if Q c then c.val else 2048) := fun c => by
    by_cases h : Q c <;> simp [h, Scalar.select]
  simp only [h]
  rw [fold_minsi _ (fun c => by split <;> omega) p (fun c => by
    rw [if_pos hp]; split
    next h => exact hl c h
    next h => exact p.isLt.le), if_pos hp]

theorem eqV_val (a : IVec S512x1 32) (i : Fin 512) (p : Fin 2048) (ha : a (ix2 i 0) = BitVec.ofNat 32 p.val) (j : Fin 2048) :
    eqV a (ix2 i j) = BitVec.ofBool (decide (j = p)) := by
  pointwise [eqV]
  rw [ha]
  have : BitVec.ofNat 32 j.val = BitVec.ofNat 32 p.val ↔ j = p := by
    rw [← BitVec.toNat_inj, BitVec.toNat_ofNat, BitVec.toNat_ofNat, Nat.mod_eq_of_lt (by omega), Nat.mod_eq_of_lt (by omega), Fin.ext_iff]
  show BitVec.ofBool (_ == _) = _
  congr 1
  rw [Bool.eq_iff_iff, beq_iff_eq, this, decide_eq_true_eq]

theorem rmV_val (e : IVec S512x2048 1) (v : FVec Ideal S512x2048 .f32) (i : Fin 512) (w : Fin 2048 → ℝ) (n : Fin 2048)
    (he : ∀ j, e (ix2 i j) = BitVec.ofBool (decide (j = pick w n))) (hv : ∀ c, v (ix2 i c) = ((st n.val w c : ℝ) : EReal)) (j : Fin 2048) :
    rmV e v (ix2 i j) = ((st (n.val + 1) w j : ℝ) : EReal) := by
  pointwise [rmV]
  rw [he, hv, ofBits_neg_one, ← st_succ n j]
  by_cases h : j = pick w n <;> simp [h, Scalar.select]

theorem mark_val (v : FVec Ideal S512x2048 .f32) (i : Fin 512) (w : Fin 2048 → ℝ) (hw : ∀ c, 0 < w c) (n : Fin 2048) (hv : ∀ c, v (ix2 i c) = ((st n.val w c : ℝ) : EReal)) (j : Fin 2048) :
    eqV (amV (qV v)) (ix2 i j) = BitVec.ofBool (decide (j = pick w n)) :=
  eqV_val _ i _ (amV_val _ i (fun c => st n.val w c = st n.val w (pick w n)) _ (fun c => qV_val v i (st n.val w) (pick w n) hv (fun c => by rw [st_pick]; exact st_le hw n c) c) rfl
    (fun c h => le_of_st_eq hw n c (by rw [h, st_pick]))) j

theorem stepV_val (v : FVec Ideal S512x2048 .f32) (i : Fin 512) (w : Fin 2048 → ℝ) (hw : ∀ c, 0 < w c) (n : ℕ) (hn : n < 2048) (hv : ∀ c, v (ix2 i c) = ((st n w c : ℝ) : EReal)) (j : Fin 2048) :
    stepV v (ix2 i j) = ((st (n + 1) w j : ℝ) : EReal) :=
  rmV_val _ v i w ⟨n, hn⟩ (mark_val v i w hw ⟨n, hn⟩ hv) hv j

/-! ## The block -/

/-- The selection weights of a row. -/
def wt {n : ℕ} (x : Fin n → Fin 64 → ℝ) (T : Fin 2048 → Fin 64 → ℝ) (lx : Fin n → BitVec 32) (L : Fin 2048 → BitVec 32) (i : Fin n) (j : Fin 2048) : ℝ :=
  if lx i = L j then 1 else Real.exp (-dd (nrm x) (nrm T) i j)
theorem wt_pos {n : ℕ} (x : Fin n → Fin 64 → ℝ) (T : Fin 2048 → Fin 64 → ℝ) (lx : Fin n → BitVec 32) (L : Fin 2048 → BitVec 32) (i : Fin n) (j : Fin 2048) : 0 < wt x T lx L i j := by
  unfold wt; split
  · exact one_pos
  · exact Real.exp_pos _

variable {x : FVec Ideal S512x64 .f32} {T : FVec Ideal S2048x64 .f32} {X : Fin 512 → Fin 64 → ℝ} {Y : Fin 2048 → Fin 64 → ℝ}

theorem pay10_val (hx : Rows (fun i k => x (ix2 i k)) X) (hT : Rows (fun i k => T (ix2 i k)) Y) (i : Fin 512) (j : Fin 2048) :
    k0_pay10 (F := Ideal) x T (ix2 i j) = ((dot (nrm X) (nrm X) i i + dot (nrm Y) (nrm Y) j j - 2 * dot (nrm X) (nrm Y) i j : ℝ) : EReal) := by
  have hx' : ∀ i k, Ideal.div (x (ix2 i k)) (max (Ideal.sqrt (∑ k, x (ix2 i k) * x (ix2 i k))) ((eps : ℝ) : EReal)) = ((nrm X i k : ℝ) : EReal) := hx
  have hT' : ∀ i k, Ideal.div (T (ix2 i k)) (max (Ideal.sqrt (∑ k, T (ix2 i k) * T (ix2 i k))) ((eps : ℝ) : EReal)) = ((nrm Y i k : ℝ) : EReal) := hT
  pointwise [k0_pay10]
  simp only [ofBits_two, ofBits_eps, hx', hT', ← EReal.coe_mul, coe_sum, ← EReal.coe_sub, sub_self, mul_zero, zero_mul, Finset.sum_const_zero,
    ← EReal.coe_add, add_zero, dot]

theorem wV_val {ic : IVec S512x1 32} {ir : IVec S1x2048 32} {lx : Fin 512 → BitVec 32} {L : Fin 2048 → BitVec 32}
    (hx : Rows (fun i k => x (ix2 i k)) X) (hT : Rows (fun i k => T (ix2 i k)) Y) (hc : ∀ i, ic (ix2 i 0) = lx i) (hr : ∀ j, ir (ix2 0 j) = L j) (i : Fin 512) (j : Fin 2048) :
    wV (k0_pay10 (F := Ideal) x T) ic ir (ix2 i j) = ((wt X Y lx L i j : ℝ) : EReal) := by
  pointwise [wV]
  simp only [pay10_val hx hT, hc, hr, ofBits_eps, coe_max, ← EReal.coe_zero, ← EReal.coe_one, ← EReal.coe_sub, zero_sub, Ideal.exp_coe, ← EReal.coe_neg]
  unfold wt dd
  by_cases h : lx i = L j
  · simp [h, IntOp.cmpi, Scalar.select]
  · have hb : (lx i == L j) = false := beq_eq_false_iff_ne.mpr h
    simp [h, hb, IntOp.cmpi, Scalar.select]

theorem neg_val (v : FVec Ideal S512x2048 .f32) (i : Fin 512) (w : Fin 2048 → ℝ) (hw : ∀ c, 0 < w c) (n : ℕ) (hv : ∀ c, v (ix2 i c) = ((st n w c : ℝ) : EReal)) (j : Fin 2048) :
    cmpf .olt v (broadcast S512x2048 (Scalar.ofBits (F := Ideal) .f32 0x00000000#32)) (ix2 i j) = BitVec.ofBool (decide (rank w j < n)) := by
  pointwise []
  rw [hv, ← EReal.coe_zero]
  simp only [EReal.coe_lt_coe_iff, st_neg hw]
theorem flag_val (P : Prop) [Decidable P] : (FloatOps.sitofp .f32 (BitVec.setWidth 32 (BitVec.ofBool (decide P))) : Ideal .f32) = (((if P then 1 else 0 : ℝ)) : EReal) := by
  by_cases h : P
  · have e : (BitVec.setWidth 32 (BitVec.ofBool true)).toInt = 1 := by decide
    simp only [h, decide_true, if_true]
    show ((((BitVec.setWidth 32 (BitVec.ofBool true)).toInt : ℝ)) : EReal) = _
    rw [e, Int.cast_one]
  · have e : (BitVec.setWidth 32 (BitVec.ofBool false)).toInt = 0 := by decide
    simp only [h, decide_false, if_false]
    show ((((BitVec.setWidth 32 (BitVec.ofBool false)).toInt : ℝ)) : EReal) = _
    rw [e, Int.cast_zero]

variable {ic : IVec S512x1 32} {ir : IVec S1x2048 32} {lx : Fin 512 → BitVec 32} {L : Fin 2048 → BitVec 32}
    (hx : Rows (fun i k => x (ix2 i k)) X) (hT : Rows (fun i k => T (ix2 i k)) Y) (hc : ∀ i, ic (ix2 i 0) = lx i) (hr : ∀ j, ir (ix2 0 j) = L j)
include hx hT hc hr

theorem w0_val (i : Fin 512) (j : Fin 2048) : w0 (F := Ideal) x T ic ir (ix2 i j) = ((st 2 (wt X Y lx L i) j : ℝ) : EReal) := by
  unfold w0; rw [pay11_eq]
  exact stepV_val _ i _ (wt_pos X Y lx L i) 1 (by omega) (stepV_val _ i _ (wt_pos X Y lx L i) 0 (by omega) (fun c => wV_val hx hT hc hr i c)) j
theorem w1_val (i : Fin 512) (j : Fin 2048) : w1 (F := Ideal) x T ic ir (ix2 i j) = ((st 5 (wt X Y lx L i) j : ℝ) : EReal) := by
  unfold w1 q0; rw [pay13_eq, pay12_eq]
  exact stepV_val _ i _ (wt_pos X Y lx L i) 4 (by omega) (stepV_val _ i _ (wt_pos X Y lx L i) 3 (by omega) (stepV_val _ i _ (wt_pos X Y lx L i) 2 (by omega) (w0_val hx hT hc hr i))) j
theorem h1_val (i : Fin 512) (j : Fin 2048) : h1 (F := Ideal) x T ic ir (ix2 i j) = BitVec.ofBool (decide (rank (wt X Y lx L i) j < 5)) := by
  unfold h1; rw [pay14_eq]
  exact neg_val _ i _ (wt_pos X Y lx L i) 5 (w1_val hx hT hc hr i) j
theorem w2_val (i : Fin 512) (j : Fin 2048) : w2 (F := Ideal) x T ic ir (ix2 i j) = ((st 9 (wt X Y lx L i) j : ℝ) : EReal) := by
  unfold w2 q1; rw [pay17_eq, pay15_eq]
  exact stepV_val _ i _ (wt_pos X Y lx L i) 8 (by omega) (stepV_val _ i _ (wt_pos X Y lx L i) 7 (by omega) (stepV_val _ i _ (wt_pos X Y lx L i) 6 (by omega)
    (stepV_val _ i _ (wt_pos X Y lx L i) 5 (by omega) (w1_val hx hT hc hr i)))) j
theorem pay1_val (i : Fin 512) (j : Fin 2048) : k0_pay1 (F := Ideal) io512 (w2 x T ic ir) (q2 x T ic ir) (ix2 i j) = (((if rank (wt X Y lx L i) j < 10 then 1 else 0 : ℝ)) : EReal) := by
  have h := neg_val _ i _ (wt_pos X Y lx L i) 10 (stepV_val _ i _ (wt_pos X Y lx L i) 9 (by omega) (w2_val hx hT hc hr i)) j
  unfold q2; rw [pay1_eq, pay18_eq]
  refine Eq.trans ?_ (flag_val _)
  exact congrArg (fun b => FloatOps.sitofp .f32 (BitVec.setWidth 32 b)) h
theorem selT_val (i : Fin 512) (j : Fin 2048) : selT (F := Ideal) x T ic ir (ix2 i j) = (((if rank (wt X Y lx L i) j < 10 then 1 else 0 : ℝ)) : EReal) := by
  have h := pay1_val hx hT hc hr i j
  unfold selT
  pointwise [k0_pay2]
  exact h
theorem selTt_val (i : Fin 512) (j : Fin 2048) : selTt (F := Ideal) x T ic ir (ix2 j i) = (((if rank (wt X Y lx L i) j < 10 then 1 else 0 : ℝ)) : EReal) := by
  have h := pay1_val hx hT hc hr i j
  unfold selTt
  pointwise [k0_pay3]
  exact h
theorem halfT_val (i : Fin 512) (j : Fin 2048) : halfT (F := Ideal) x T ic ir (ix2 i j) = (((if rank (wt X Y lx L i) j < 5 then 1 else 0 : ℝ)) : EReal) := by
  have h := h1_val hx hT hc hr i j
  unfold halfT
  pointwise [k0_pay4]
  rw [h]
  exact flag_val _

end Cert.Val

end
-- ==== Proof.V.KMat.lean ====
/-
  Hand-written, untrusted. The kernel's five matrices and its block weights, as real numbers.
-/
module

public import proofs.«01_k».proof.Proof.V.KSel
public import proofs.«01_k».proof.Proof.KI.Stage

@[expose] public section

set_option maxRecDepth 16384

noncomputable section

namespace Cert.Val

open Idealize.ShloMosaic Cert.KernelIdeal Cert.KernelIdeal.Gen Cert.KernelIdeal.Hand

/-! ## The matrices -/

section
variable (T : Fin 2048 → Fin 64 → ℝ) (L : Fin 2048 → BitVec 32)

/-- Column `c` is among the first ten of row `r`; among the first five. -/
def mA (r c : Fin 2048) : ℝ := if rank (wt T T L L r) c < 10 then 1 else 0
def mH (r c : Fin 2048) : ℝ := if rank (wt T T L L r) c < 5 then 1 else 0
/-- The mutual selection. -/
def mV (r c : Fin 2048) : ℝ := mA T L r c * mA T L c r
/-- The shared neighbours over the row's count. -/
def mU (r c : Fin 2048) : ℝ := mV T L r c * (∑ k, mV T L r k * mV T L c k) / max (∑ k, mV T L r k) 1
/-- Its mean over a row's first five. -/
def mM (r c : Fin 2048) : ℝ := (∑ k, mH T L r k * mU T L k c) * (1 / 5)
def offd (r c : Fin 2048) : ℝ := if r ≠ c then 1 else 0
/-- The weights of the two terms of a contrastive loss. -/
def mW (r c : Fin 2048) : ℝ := 1 / 2 * (Real.exp (-dd (nrm T) (nrm T) r c) + 1 / 2 * (mM T L r c + mM T L c r)) * offd r c
def mO (r c : Fin 2048) : ℝ := offd r c - mW T L r c
end

/-! ## Blocks of rows -/

def b512 (k : ℕ) (i : Fin 512) : Fin 2048 := ⟨512 * (k % 4) + i.val, by omega⟩
def b256 (k : ℕ) (i : Fin 256) : Fin 2048 := ⟨256 * (k % 8) + i.val, by omega⟩

section
variable {α : Type}
theorem b512_div (r : Fin 2048) : b512 (r.val / 512) ⟨r.val % 512, Nat.mod_lt _ (by decide)⟩ = r :=
  Fin.ext (by show 512 * (r.val / 512 % 4) + r.val % 512 = r.val; omega)
theorem rT_ix (x : S2048x64.Idx → α) (k : ℕ) (i : Fin 512) (c : Fin 64) : rT x k (ix2 i c) = x (ix2 (b512 k i) c) := by
  refine congrArg x (funext fun a => Fin.ext ?_)
  match a with
  | 0 => show 512 * (k % 4) + 1 * i.val = 512 * (k % 4) + i.val; omega
  | 1 => show 0 + 1 * c.val = c.val; omega
theorem rC_ix (x : S2048x1.Idx → α) (k : ℕ) (i : Fin 512) : rC x k (ix2 i 0) = x (ix2 (b512 k i) 0) := by
  refine congrArg x (funext fun a => Fin.ext ?_)
  match a with
  | 0 => show 512 * (k % 4) + 1 * i.val = 512 * (k % 4) + i.val; omega
  | 1 => rfl
theorem rS_ix (x : S2048x2048.Idx → α) (k : ℕ) (i : Fin 512) (c : Fin 2048) : rS x k (ix2 i c) = x (ix2 (b512 k i) c) := by
  refine congrArg x (funext fun a => Fin.ext ?_)
  match a with
  | 0 => show 512 * (k % 4) + 1 * i.val = 512 * (k % 4) + i.val; omega
  | 1 => show 0 + 1 * c.val = c.val; omega
theorem lT_ix (x : S2048x64.Idx → α) (k : ℕ) (i : Fin 256) (c : Fin 64) : lT x k (ix2 i c) = x (ix2 (b256 k i) c) := by
  refine congrArg x (funext fun a => Fin.ext ?_)
  match a with
  | 0 => show 256 * (k % 8) + 1 * i.val = 256 * (k % 8) + i.val; omega
  | 1 => show 0 + 1 * c.val = c.val; omega
theorem lS_ix (x : S2048x2048.Idx → α) (k : ℕ) (i : Fin 256) (c : Fin 2048) : lS x k (ix2 i c) = x (ix2 (b256 k i) c) := by
  refine congrArg x (funext fun a => Fin.ext ?_)
  match a with
  | 0 => show 256 * (k % 8) + 1 * i.val = 256 * (k % 8) + i.val; omega
  | 1 => show 0 + 1 * c.val = c.val; omega
theorem asm_ix (w : ℕ → S512x2048.Idx → α) (r c : Fin 2048) : asm w (ix2 r c) = w (r.val / 512) (ix2 ⟨r.val % 512, Nat.mod_lt _ (by decide)⟩ c) := by
  refine congrArg (w (r.val / 512)) (funext fun a => ?_)
  match a with
  | 0 => rfl
  | 1 => rfl
theorem asmC_ix (w : ℕ → S2048x512.Idx → α) (r c : Fin 2048) : asmC w (ix2 r c) = w (c.val / 512) (ix2 r ⟨c.val % 512, Nat.mod_lt _ (by decide)⟩) := by
  refine congrArg (w (c.val / 512)) (funext fun a => ?_)
  match a with
  | 0 => rfl
  | 1 => rfl
end

/-! ## The kernel's -/

theorem pay5_val (x y : FVec Ideal S512x2048 .bf16) (i : Fin 512) (j : Fin 2048) (a b : ℝ) (hx : x (ix2 i j) = (a : EReal)) (hy : y (ix2 i j) = (b : EReal)) :
    k0_pay5 (F := Ideal) x y (ix2 i j) = ((a * b : ℝ) : EReal) := by
  pointwise [k0_pay5]
  rw [hx, hy, EReal.coe_mul]
theorem pay6_val (x : FVec Ideal S512x2048 .bf16) (y : FVec Ideal S2048x2048 .bf16) (i : Fin 512) (j : Fin 2048) (a b : Fin 2048 → ℝ)
    (hx : ∀ k, x (ix2 i k) = (a k : EReal)) (hy : ∀ k, y (ix2 j k) = (b k : EReal)) :
    k0_pay6 (F := Ideal) x y (ix2 i j) = ((a j * (∑ k, a k * b k) / max (∑ k, a k) 1 : ℝ) : EReal) := by
  have hd : max (∑ k, a k) 1 ≠ 0 := (lt_of_lt_of_le one_pos (le_max_right _ _)).ne'
  pointwise [k0_pay6]
  simp only [hx, hy, ← EReal.coe_mul, coe_sum, ← EReal.coe_one, coe_max, coe_div _ hd]
theorem pay7_val (x : FVec Ideal S512x2048 .bf16) (y : FVec Ideal S2048x2048 .bf16) (i : Fin 512) (j : Fin 2048) (a b : Fin 2048 → ℝ)
    (hx : ∀ k, x (ix2 i k) = (a k : EReal)) (hy : ∀ k, y (ix2 k j) = (b k : EReal)) :
    k0_pay7 (F := Ideal) x y (ix2 i j) = (((∑ k, a k * b k) * (1 / 5) : ℝ) : EReal) := by
  have h5 : (Named.named (F := Ideal) κ "fifth" 1045220557#32 : Ideal .f32) = ((1 / 5 : ℝ) : EReal) := by
    rw [one_div]
    exact IdealRules.named_const.ideal_named_scalar _ _ _ _ rfl
  pointwise [k0_pay7]
  simp only [hx, hy, ← EReal.coe_mul, coe_sum, h5]
theorem pay8_val (x : FVec Ideal S512x2048 .bf16) (y : FVec Ideal S2048x2048 .bf16) (i : Fin 512) (j : Fin 2048) (a b : Fin 2048 → ℝ)
    (hx : ∀ k, x (ix2 i k) = (a k : EReal)) (hy : ∀ k, y (ix2 k j) = (b k : EReal)) :
    k0_pay8 (F := Ideal) x y (ix2 i j) = (((∑ k, a k * b k) * (1 / 5) : ℝ) : EReal) := by
  rw [← pay7_val x y i j a b hx hy]
  pointwise [k0_pay8]
theorem pay9_val (x : FVec Ideal S512x2048 .bf16) (y : FVec Ideal S2048x2048 .bf16) (i : Fin 512) (j : Fin 2048) (a b : Fin 2048 → ℝ)
    (hx : ∀ k, x (ix2 i k) = (a k : EReal)) (hy : ∀ k, y (ix2 k j) = (b k : EReal)) :
    k0_pay9 (F := Ideal) x y (ix2 j i) = (((∑ k, a k * b k) * (1 / 5) : ℝ) : EReal) := by
  rw [← pay7_val x y i j a b hx hy]
  pointwise [k0_pay9]

theorem pay22_val {x : FVec Ideal S256x64 .f32} {y : FVec Ideal S2048x64 .f32} {X : Fin 256 → Fin 64 → ℝ} {Y : Fin 2048 → Fin 64 → ℝ}
    (hx : Rows (fun i k => x (ix2 i k)) X) (hy : Rows (fun i k => y (ix2 i k)) Y) (i : Fin 256) (j : Fin 2048) :
    k0_pay22 (F := Ideal) x y (ix2 i j) = ((dot (nrm X) (nrm Y) i j : ℝ) : EReal) := by
  have hx' : ∀ i k, Ideal.div (x (ix2 i k)) (max (Ideal.sqrt (∑ k, x (ix2 i k) * x (ix2 i k))) ((eps : ℝ) : EReal)) = ((nrm X i k : ℝ) : EReal) := hx
  have hy' : ∀ i k, Ideal.div (y (ix2 i k)) (max (Ideal.sqrt (∑ k, y (ix2 i k) * y (ix2 i k))) ((eps : ℝ) : EReal)) = ((nrm Y i k : ℝ) : EReal) := hy
  pointwise [k0_pay22, k0_pay19, k0_pay20]
  simp only [ofBits_two, ofBits_eps, hx', hy', ← EReal.coe_mul, coe_sum, ← EReal.coe_sub, sub_self, mul_zero, zero_mul, Finset.sum_const_zero,
    ← EReal.coe_add, add_zero, dot]
theorem pay21_val {x : FVec Ideal S256x64 .f32} {y : FVec Ideal S2048x64 .f32} {X : Fin 256 → Fin 64 → ℝ} {Y : Fin 2048 → Fin 64 → ℝ}
    (hx : Rows (fun i k => x (ix2 i k)) X) (hy : Rows (fun i k => y (ix2 i k)) Y) (i : Fin 256) (j : Fin 2048) :
    k0_pay21 (F := Ideal) x y (ix2 i j) = ((dot (nrm X) (nrm X) i i + dot (nrm Y) (nrm Y) j j : ℝ) : EReal) := by
  have hx' : ∀ i k, Ideal.div (x (ix2 i k)) (max (Ideal.sqrt (∑ k, x (ix2 i k) * x (ix2 i k))) ((eps : ℝ) : EReal)) = ((nrm X i k : ℝ) : EReal) := hx
  have hy' : ∀ i k, Ideal.div (y (ix2 i k)) (max (Ideal.sqrt (∑ k, y (ix2 i k) * y (ix2 i k))) ((eps : ℝ) : EReal)) = ((nrm Y i k : ℝ) : EReal) := hy
  pointwise [k0_pay21, k0_pay19, k0_pay20]
  simp only [ofBits_two, ofBits_eps, hx', hy', ← EReal.coe_mul, coe_sum, ← EReal.coe_sub, sub_self, mul_zero, zero_mul, Finset.sum_const_zero,
    ← EReal.coe_add, add_zero, dot]

theorem rowW_eq (k : ℕ) (hk : k < 8) : rowW k = BitVec.ofNat 32 (256 * (k % 8)) := by
  interval_cases k <;> rfl
theorem pay24_val (k : ℕ) (hk : k < 8) (i : Fin 256) (j : Fin 2048) : k0_pay24 (F := Ideal) (rowW k) (ix2 i j) = ((offd (b256 k i) j : ℝ) : EReal) := by
  have h : IntOp.cmpi .ne (IntOp.addi (BitVec.ofNat 32 (256 * (k % 8))) (BitVec.ofNat 32 i.val)) (BitVec.ofNat 32 j.val) = BitVec.ofBool (decide (b256 k i ≠ j)) := by
    show BitVec.ofBool (_ != _) = _
    congr 1
    rw [Bool.eq_iff_iff, bne_iff_ne, decide_eq_true_eq, not_iff_not]
    show BitVec.ofNat 32 _ + BitVec.ofNat 32 _ = _ ↔ _
    rw [← BitVec.ofNat_add, ← BitVec.toNat_inj, BitVec.toNat_ofNat, BitVec.toNat_ofNat, Fin.ext_iff]
    have e : (b256 k i).val = 256 * (k % 8) + i.val := rfl
    omega
  rw [rowW_eq k hk]
  pointwise [k0_pay24]
  rw [h]
  exact flag_val _
theorem pay25_val (k : ℕ) (hk : k < 8) (b q s : FVec Ideal S256x2048 .f32) (d e : FVec Ideal S256x2048 .bf16) (i : Fin 256) (j : Fin 2048) (B Q D E : ℝ)
    (hb : b (ix2 i j) = (B : EReal)) (hq : q (ix2 i j) = (Q : EReal)) (hd : d (ix2 i j) = (D : EReal)) (he : e (ix2 i j) = (E : EReal)) :
    k0_pay25 (F := Ideal) (rowW k) b q (k0_pay23 (F := Ideal)) d e (ix2 i j) = ((1 / 2 * (Real.exp (-max (B - 2 * Q) eps) + 1 / 2 * (D + E)) * offd (b256 k i) j : ℝ) : EReal) := by
  pointwise [k0_pay25, k0_pay23]
  simp only [pay24_val k hk, hb, hq, hd, he, ofBits_two, ofBits_half, ofBits_eps, ← EReal.coe_zero, ← EReal.coe_mul, ← EReal.coe_sub, coe_max, zero_sub, ← EReal.coe_neg, Ideal.exp_coe, ← EReal.coe_add]
theorem pay26_val (k : ℕ) (hk : k < 8) (b q s : FVec Ideal S256x2048 .f32) (d e : FVec Ideal S256x2048 .bf16) (i : Fin 256) (j : Fin 2048) (W : ℝ)
    (h : k0_pay25 (F := Ideal) (rowW k) b q s d e (ix2 i j) = (W : EReal)) :
    k0_pay26 (F := Ideal) (rowW k) b q s d e (ix2 i j) = ((offd (b256 k i) j - W : ℝ) : EReal) := by
  pointwise [k0_pay26]
  rw [pay24_val k hk, h, EReal.coe_sub]

/-- A block of rows has the normalized rows of the block. -/
theorem rows_rT {T : FVec Ideal S2048x64 .f32} {Y : Fin 2048 → Fin 64 → ℝ} (hT : Rows (fun i k => T (ix2 i k)) Y) (k : ℕ) :
    Rows (fun i c => rT T k (ix2 i c)) fun i => Y (b512 k i) := fun i c => by
  simp only [rT_ix]
  exact hT (b512 k i) c
theorem rows_lT {T : FVec Ideal S2048x64 .f32} {Y : Fin 2048 → Fin 64 → ℝ} (hT : Rows (fun i k => T (ix2 i k)) Y) (k : ℕ) :
    Rows (fun i c => lT T k (ix2 i c)) fun i => Y (b256 k i) := fun i c => by
  simp only [lT_ix]
  exact hT (b256 k i) c

section
variable {T : FVec Ideal S2048x64 .f32} {C : IVec S2048x1 32} {R : IVec S1x2048 32} {Y : Fin 2048 → Fin 64 → ℝ} {L : Fin 2048 → BitVec 32}
    (hT : Rows (fun i k => T (ix2 i k)) Y) (hC : ∀ i, C (ix2 i 0) = L i) (hR : ∀ j, R (ix2 0 j) = L j)
include hT hC hR

theorem gA0_val (r c : Fin 2048) : gA0 (F := Ideal) T C R (ix2 r c) = ((mA Y L r c : ℝ) : EReal) := by
  unfold gA0
  rw [asm_ix, selT_val (X := fun i => Y (b512 (r.val / 512) i)) (lx := fun i => L (b512 (r.val / 512) i)) (rows_rT hT _) hT (fun i => by rw [rC_ix, hC]) hR]
  show ((if rank (wt Y Y L L (b512 (r.val / 512) ⟨r.val % 512, _⟩)) c < 10 then 1 else 0 : ℝ) : EReal) = _
  rw [b512_div]; rfl
theorem gB0_val (r c : Fin 2048) : gB0 (F := Ideal) T C R (ix2 r c) = ((mA Y L c r : ℝ) : EReal) := by
  unfold gB0
  rw [asmC_ix, selTt_val (X := fun i => Y (b512 (c.val / 512) i)) (lx := fun i => L (b512 (c.val / 512) i)) (rows_rT hT _) hT (fun i => by rw [rC_ix, hC]) hR]
  show ((if rank (wt Y Y L L (b512 (c.val / 512) ⟨c.val % 512, _⟩)) r < 10 then 1 else 0 : ℝ) : EReal) = _
  rw [b512_div]; rfl
theorem gH_val (r c : Fin 2048) : gH (F := Ideal) T C R (ix2 r c) = ((mH Y L r c : ℝ) : EReal) := by
  unfold gH
  rw [asm_ix, halfT_val (X := fun i => Y (b512 (r.val / 512) i)) (lx := fun i => L (b512 (r.val / 512) i)) (rows_rT hT _) hT (fun i => by rw [rC_ix, hC]) hR]
  show ((if rank (wt Y Y L L (b512 (r.val / 512) ⟨r.val % 512, _⟩)) c < 5 then 1 else 0 : ℝ) : EReal) = _
  rw [b512_div]; rfl
theorem gA1_val (r c : Fin 2048) : gA1 (F := Ideal) T C R (ix2 r c) = ((mV Y L r c : ℝ) : EReal) := by
  unfold gA1
  rw [asm_ix]
  exact pay5_val _ _ _ _ _ _ (by rw [rS_ix, b512_div, gA0_val hT hC hR]) (by rw [rS_ix, b512_div, gB0_val hT hC hR])
theorem gB1_val (r c : Fin 2048) : gB1 (F := Ideal) T C R (ix2 r c) = ((mU Y L r c : ℝ) : EReal) := by
  unfold gB1
  rw [asm_ix]
  exact pay6_val _ _ _ _ (mV Y L r) (mV Y L c) (fun k => by rw [rS_ix, b512_div, gA1_val hT hC hR]) (fun k => gA1_val hT hC hR c k)
theorem gD_val (r c : Fin 2048) : gD (F := Ideal) T C R (ix2 r c) = ((mM Y L r c : ℝ) : EReal) := by
  unfold gD
  rw [asm_ix]
  exact pay8_val _ _ _ _ (mH Y L r) (fun k => mU Y L k c) (fun k => by rw [rS_ix, b512_div, gH_val hT hC hR]) (fun k => gB1_val hT hC hR k c)
theorem gE_val (r c : Fin 2048) : gE (F := Ideal) T C R (ix2 r c) = ((mM Y L c r : ℝ) : EReal) := by
  unfold gE
  rw [asmC_ix]
  exact pay9_val _ _ _ _ (mH Y L c) (fun k => mU Y L k r) (fun k => by rw [rS_ix, b512_div, gH_val hT hC hR]) (fun k => gB1_val hT hC hR k r)
theorem tW_val (k : ℕ) (hk : k < 8) (i : Fin 256) (j : Fin 2048) : tW (F := Ideal) T C R k (ix2 i j) = ((mW Y L (b256 k i) j : ℝ) : EReal) := by
  unfold tW wo
  exact pay25_val k hk _ _ (k0_pay23 (F := Ideal)) _ _ i j _ _ _ _ (pay21_val (X := fun i => Y (b256 k i)) (rows_lT hT _) hT i j)
    (pay22_val (X := fun i => Y (b256 k i)) (rows_lT hT _) hT i j) (by rw [lS_ix, gD_val hT hC hR]) (by rw [lS_ix, gE_val hT hC hR])
theorem tW2_val (k : ℕ) (hk : k < 8) (i : Fin 256) (j : Fin 2048) : tW2 (F := Ideal) T C R k (ix2 i j) = ((mO Y L (b256 k i) j : ℝ) : EReal) := by
  unfold tW2 wo2
  exact pay26_val k hk _ _ _ _ _ i j _ (tW_val hT hC hR k hk i j)
end

/-! ## The outputs -/

/-- A sum over the rows, by blocks. -/
theorem sum_blocks (f : Fin 2048 → ℝ) : ∑ k ∈ Finset.range 8, ∑ i, f (b256 k i) = ∑ r, f r := by
  rw [Finset.sum_range (fun k => ∑ i, f (b256 k i)), ← Fintype.sum_prod_type' (fun (k : Fin 8) i => f (b256 k.val i))]
  refine Fintype.sum_equiv (finProdFinEquiv (m := 8) (n := 256)) _ _ fun p => congrArg f (Fin.ext ?_)
  show 256 * (p.1.val % 8) + p.2.val = p.2.val + 256 * p.1.val
  omega

section
variable {T Fm G : FVec Ideal S2048x64 .f32} {C : IVec S2048x1 32} {R : IVec S1x2048 32} {Y X Z : Fin 2048 → Fin 64 → ℝ} {L : Fin 2048 → BitVec 32}

theorem pay45_val (a b : FVec Ideal S1x1 .f32) (A B : ℝ) (ha : a (ix2 0 0) = (A : EReal)) (hb : b (ix2 0 0) = (B : EReal)) :
    k0_pay45 (F := Ideal) a b (ix2 0 0) = ((B + A : ℝ) : EReal) := by
  pointwise [k0_pay45]
  rw [ha, hb, EReal.coe_add]

theorem acc5_val (hT : Rows (fun i k => T (ix2 i k)) Y) (hC : ∀ i, C (ix2 i 0) = L i) (hR : ∀ j, R (ix2 0 j) = L j) (hF : ∀ i k, Fm (ix2 i k) = (X i k : EReal)) (n : ℕ) (hn : n ≤ 8) :
    acc5 (F := Ideal) T C R Fm n (ix2 0 0) = ((∑ k ∈ Finset.range n, rcT (sn (fun i => X (b256 k i)) X) (fun i => mW Y L (b256 k i)) (fun i => mO Y L (b256 k i)) : ℝ) : EReal) := by
  induction n with
  | zero => rw [Finset.sum_range_zero]; unfold acc5; pointwise [k0_pay42]; exact EReal.coe_zero.symm
  | succ n ih =>
    rw [Finset.sum_range_succ]
    exact pay45_val _ _ _ _ (lossF_val (X := fun i => X (b256 n i)) (fun i j => tW_val hT hC hR n (by omega) i j) (fun i j => tW2_val hT hC hR n (by omega) i j) (fun i k => by rw [lT_ix, hF]) hF) (ih (by omega))
theorem acc6_val (hT : Rows (fun i k => T (ix2 i k)) Y) (hC : ∀ i, C (ix2 i 0) = L i) (hR : ∀ j, R (ix2 0 j) = L j) (hF : ∀ i k, Fm (ix2 i k) = (X i k : EReal)) (n : ℕ) (hn : n ≤ 8) :
    acc6 (F := Ideal) T C R Fm n (ix2 0 0) = ((∑ k ∈ Finset.range n, rcT (sn (fun i => X (b256 k i)) X) (fun i => mW Y L (b256 k i)) (fun i => mO Y L (b256 k i)) : ℝ) : EReal) := by
  induction n with
  | zero => rw [Finset.sum_range_zero]; unfold acc6; pointwise [k0_pay43]; exact EReal.coe_zero.symm
  | succ n ih =>
    rw [Finset.sum_range_succ]
    exact lossG_val (X := fun i => X (b256 n i)) (fun i j => tW_val hT hC hR n (by omega) i j) (fun i j => tW2_val hT hC hR n (by omega) i j) (fun i k => by rw [lT_ix, hF]) hF _ _ (ih (by omega))
theorem acc7_val (hF : ∀ i k, Fm (ix2 i k) = (X i k : EReal)) (hG : ∀ i k, G (ix2 i k) = (Z i k : EReal)) (n : ℕ) :
    acc7 (F := Ideal) Fm G n (ix2 0 0) = ((∑ k ∈ Finset.range n, klT (fun i => X (b256 k i)) X (fun i => Z (b256 k i)) Z : ℝ) : EReal) := by
  induction n with
  | zero => rw [Finset.sum_range_zero]; unfold acc7; pointwise [k0_pay44]; exact EReal.coe_zero.symm
  | succ n ih =>
    rw [Finset.sum_range_succ]
    exact klStep_val (X := fun i => X (b256 n i)) (X' := fun i => Z (b256 n i)) (fun i k => by rw [lT_ix, hF]) hF (fun i k => by rw [lT_ix, hG]) hG _ _ ih

/-- The three accumulated outputs. -/
theorem acc5_eq (hT : Rows (fun i k => T (ix2 i k)) Y) (hC : ∀ i, C (ix2 i 0) = L i) (hR : ∀ j, R (ix2 0 j) = L j) (hF : ∀ i k, Fm (ix2 i k) = (X i k : EReal)) :
    acc5 (F := Ideal) T C R Fm 8 (ix2 0 0) = ((rcT (sn X X) (mW Y L) (mO Y L) : ℝ) : EReal) := by
  rw [acc5_val hT hC hR hF 8 (le_refl 8)]
  exact congrArg _ (sum_blocks fun r => ∑ j, (sn X X r j * sn X X r j * mW Y L r j + max (1 - sn X X r j) 0 * max (1 - sn X X r j) 0 * mO Y L r j))
theorem acc6_eq (hT : Rows (fun i k => T (ix2 i k)) Y) (hC : ∀ i, C (ix2 i 0) = L i) (hR : ∀ j, R (ix2 0 j) = L j) (hF : ∀ i k, Fm (ix2 i k) = (X i k : EReal)) :
    acc6 (F := Ideal) T C R Fm 8 (ix2 0 0) = ((rcT (sn X X) (mW Y L) (mO Y L) : ℝ) : EReal) := by
  rw [acc6_val hT hC hR hF 8 (le_refl 8)]
  exact congrArg _ (sum_blocks fun r => ∑ j, (sn X X r j * sn X X r j * mW Y L r j + max (1 - sn X X r j) 0 * max (1 - sn X X r j) 0 * mO Y L r j))
theorem acc7_eq (hF : ∀ i k, Fm (ix2 i k) = (X i k : EReal)) (hG : ∀ i k, G (ix2 i k) = (Z i k : EReal)) :
    acc7 (F := Ideal) Fm G 8 (ix2 0 0) = ((klT X X Z Z : ℝ) : EReal) := by
  rw [acc7_val hF hG 8]
  unfold klT
  rw [Finset.sum_add_distrib]
  refine congrArg _ (congrArg₂ (· + ·) ?_ ?_)
  · exact sum_blocks fun r => ∑ j, Real.exp (-sn Z Z r j) * (1 / se Z Z r) * (sn X X r j - sn Z Z r j)
  · exact sum_blocks fun r => Real.log (se X X r) - Real.log (se Z Z r)
end

end Cert.Val

end
-- ==== Proof.V.KRes.lean ====
/-
  Hand-written, untrusted. The kernel's three results, read off the run's final memory as functions of the accumulated outputs.
-/
module

public import proofs.«01_k».proof.Proof.KI.Launch
public import proofs.«01_k».proof.Proof.V.KMat
public import Idealize.ShloMosaic.Lib.Pipeline.Value

@[expose] public section

set_option maxRecDepth 16384

noncomputable section

namespace Cert.Val

open Cert.KernelIdeal Cert.KernelIdeal.Gen Cert.KernelIdeal.Hand
open Idealize.ShloMosaic Idealize.ShloMosaic.TcCoe
open Idealize.ShloMosaic.Pipeline (Dat)

/-! ## The host's lines after the region -/

section
variable (V : Valuation τ sig (Elt Ideal))

theorem tail_v8 : StableHlo.after (hostOps1 (F := Ideal)) V (Proc.devRef .tc main_v8) =
    mulf (mulf (constant (F := Ideal) S_ .f32 0x3F000000#32) (addf (shapeCast S_ (V (Proc.devRef .tc main_v2_0)) shapeCasts_S1x1_S_) (shapeCast S_ (V (Proc.devRef .tc main_v2_1)) shapeCasts_S1x1_S_)))
      (Host.divf (constant (F := Ideal) S_ .f32 0x3F800000#32) (constant (F := Ideal) S_ .f32 0x4A7FE000#32)) := by
  simp (config := { decide := true }) only [hostOps1, StableHlo.after_cons, StableHlo.after_nil, StableHlo.nullary_result', StableHlo.binary_result', StableHlo.reshape_result',
    StableHlo.nullary_result_ne', StableHlo.binary_result_ne', StableHlo.reshape_result_ne', ne_eq, not_false_eq_true]
  rfl
theorem tail_v11 : StableHlo.after (hostOps1 (F := Ideal)) V (Proc.devRef .tc main_v11) =
    addf (F := Ideal) (s := S_) (φ := .f32) (StableHlo.after (hostOps1 (F := Ideal)) V (Proc.devRef .tc main_v8)) (StableHlo.after (hostOps1 (F := Ideal)) V (Proc.devRef .tc main_v10)) := by
  simp (config := { decide := true }) only [hostOps1, StableHlo.after_cons, StableHlo.after_nil, StableHlo.nullary_result', StableHlo.binary_result', StableHlo.reshape_result',
    StableHlo.nullary_result_ne', StableHlo.binary_result_ne', StableHlo.reshape_result_ne', ne_eq, not_false_eq_true]
theorem tail_v10 : StableHlo.after (hostOps1 (F := Ideal)) V (Proc.devRef .tc main_v10) =
    Host.divf (shapeCast S_ (V (Proc.devRef .tc main_v2_2)) shapeCasts_S1x1_S_) (constant (F := Ideal) S_ .f32 0x45000000#32) := by
  rfl
end

/-! ## The region's three outputs -/

section
variable (m : (ℓ : Loc nD τ sig) → Buf (Elt Ideal) ℓ) (c : Dev nD)

theorem S1x1_eq (x y : S1x1.Idx) : x = y := funext fun a => by
  match a with
  | 0 => exact Subsingleton.elim (α := Fin 1) _ _
  | 1 => exact Subsingleton.elim (α := Fin 1) _ _

/-- The last point. -/
def t23 : Fin cfg0.N := ⟨23, by decide⟩

theorem final5 : (dats m 0 c).arrAt 5 cfg0.N = acc5 (tT m c) (tC m c) (tR m c) (tF m c) 8 := by
  refine (dats m 0 c).arrAt_eq_of_cover 5 (acc5 (tT m c) (tC m c) (tR m c) (tF m c) 8) (fun t ht => ?_) fun i => ⟨t23, (flush0_5 _).mpr rfl, ?_⟩
  · have e : t.val = 23 := by have := (flush0_5 t).mp ht; have := t.isLt; have e : cfg0.N = 24 := N_0; omega
    have ha : (dats m 0 c).after 5 t = acc5 (tT m c) (tC m c) (tR m c) (tF m c) 8 := by
      show acc5 (tT m c) (tC m c) (tR m c) (tF m c) (t.val - 16 + 1) = _
      rw [e]
    unfold Dat.flushed
    rw [ha]
    funext y
    exact congrArg (acc5 (tT m c) (tC m c) (tR m c) (tF m c) 8) (S1x1_eq _ _)
  · obtain ⟨x, hx⟩ : ∃ x, ((cfg0.win 5).blk t23).view.emb x = i := ⟨(ix2 0 0 : S1x1.Idx), S1x1_eq _ _⟩
    exact hx ▸ View.emb_mem_set _ _
theorem final6 : (dats m 0 c).arrAt 6 cfg0.N = acc6 (tT m c) (tC m c) (tR m c) (tG m c) 8 := by
  refine (dats m 0 c).arrAt_eq_of_cover 6 (acc6 (tT m c) (tC m c) (tR m c) (tG m c) 8) (fun t ht => ?_) fun i => ⟨t23, (flush0_6 _).mpr rfl, ?_⟩
  · have e : t.val = 23 := by have := (flush0_6 t).mp ht; have := t.isLt; have e : cfg0.N = 24 := N_0; omega
    have ha : (dats m 0 c).after 6 t = acc6 (tT m c) (tC m c) (tR m c) (tG m c) 8 := by
      show acc6 (tT m c) (tC m c) (tR m c) (tG m c) (t.val - 16 + 1) = _
      rw [e]
    unfold Dat.flushed
    rw [ha]
    funext y
    exact congrArg (acc6 (tT m c) (tC m c) (tR m c) (tG m c) 8) (S1x1_eq _ _)
  · obtain ⟨x, hx⟩ : ∃ x, ((cfg0.win 6).blk t23).view.emb x = i := ⟨(ix2 0 0 : S1x1.Idx), S1x1_eq _ _⟩
    exact hx ▸ View.emb_mem_set _ _
theorem final7 : (dats m 0 c).arrAt 7 cfg0.N = acc7 (tF m c) (tG m c) 8 := by
  refine (dats m 0 c).arrAt_eq_of_cover 7 (acc7 (tF m c) (tG m c) 8) (fun t ht => ?_) fun i => ⟨t23, (flush0_7 _).mpr rfl, ?_⟩
  · have e : t.val = 23 := by have := (flush0_7 t).mp ht; have := t.isLt; have e : cfg0.N = 24 := N_0; omega
    have ha : (dats m 0 c).after 7 t = acc7 (tF m c) (tG m c) 8 := by
      show acc7 (tF m c) (tG m c) (t.val - 16 + 1) = _
      rw [e]
    unfold Dat.flushed
    rw [ha]
    funext y
    exact congrArg (acc7 (tF m c) (tG m c) 8) (S1x1_eq _ _)
  · obtain ⟨x, hx⟩ : ∃ x, ((cfg0.win 7).blk t23).view.emb x = i := ⟨(ix2 0 0 : S1x1.Idx), S1x1_eq _ _⟩
    exact hx ▸ View.emb_mem_set _ _

/-! ## The inputs -/

theorem tT_ix (i : Fin 2048) (k : Fin 64) : tT m c (ix2 i k) = m ((c.tc : Thread nD τ).loc main_arg2) (ix2 i k) := by
  rw [← V_main_arg2 m c]
  refine congrArg (V m c main_arg2) (funext fun a => Fin.ext ?_)
  match a with
  | 0 => show 0 * 2048 + 1 * i.val = i.val; omega
  | 1 => show 0 * 64 + 1 * k.val = k.val; omega
theorem tF_ix (i : Fin 2048) (k : Fin 64) : tF m c (ix2 i k) = m ((c.tc : Thread nD τ).loc main_arg0) (ix2 i k) := by
  rw [← V_main_arg0 m c]
  refine congrArg (V m c main_arg0) (funext fun a => Fin.ext ?_)
  match a with
  | 0 => show 0 * 2048 + 1 * i.val = i.val; omega
  | 1 => show 0 * 64 + 1 * k.val = k.val; omega
theorem tG_ix (i : Fin 2048) (k : Fin 64) : tG m c (ix2 i k) = m ((c.tc : Thread nD τ).loc main_arg1) (ix2 i k) := by
  rw [← V_main_arg1 m c]
  refine congrArg (V m c main_arg1) (funext fun a => Fin.ext ?_)
  match a with
  | 0 => show 0 * 2048 + 1 * i.val = i.val; omega
  | 1 => show 0 * 64 + 1 * k.val = k.val; omega
theorem V_v0 : V m c main_v0 = shapeCast S2048x1 (m ((c.tc : Thread nD τ).loc main_arg3)) shapeCasts_S2048_S2048x1 := by
  rfl
theorem V_v1 : V m c main_v1 = shapeCast S1x2048 (m ((c.tc : Thread nD τ).loc main_arg3)) shapeCasts_S2048_S1x2048 := by
  rfl
theorem tC_ix (i : Fin 2048) : tC m c (ix2 i 0) = m ((c.tc : Thread nD τ).loc main_arg3) (ix1 i) := by
  have e : tC m c (ix2 i 0) = V m c main_v0 (ix2 i 0) := by
    refine congrArg (V m c main_v0) (funext fun a => Fin.ext ?_)
    match a with
    | 0 => show 0 * 2048 + 1 * i.val = i.val; omega
    | 1 => rfl
  rw [e, V_v0]
  pointwise []
theorem tR_ix (j : Fin 2048) : tR m c (ix2 0 j) = m ((c.tc : Thread nD τ).loc main_arg3) (ix1 j) := by
  have e : tR m c (ix2 0 j) = V m c main_v1 (ix2 0 j) := by
    refine congrArg (V m c main_v1) (funext fun a => Fin.ext ?_)
    match a with
    | 0 => rfl
    | 1 => show 0 * 2048 + 1 * j.val = j.val; omega
  rw [e, V_v1]
  pointwise []

/-! ## The results -/

theorem out_inj : Function.Injective (Pipeline.arrRef spec0) := by decide
theorem V0_v2_0 : Pipeline.withArrays spec0 c (V0 m c) (fun w => (dats m 0 c).arrAt w cfg0.N) (Proc.devRef .tc main_v2_0) = acc5 (tT m c) (tC m c) (tR m c) (tF m c) 8 :=
  (Pipeline.withArrays_arr spec0 out_inj c (V0 m c) (fun w => (dats m 0 c).arrAt w cfg0.N) 5).trans (final5 m c)
theorem V0_v2_1 : Pipeline.withArrays spec0 c (V0 m c) (fun w => (dats m 0 c).arrAt w cfg0.N) (Proc.devRef .tc main_v2_1) = acc6 (tT m c) (tC m c) (tR m c) (tG m c) 8 :=
  (Pipeline.withArrays_arr spec0 out_inj c (V0 m c) (fun w => (dats m 0 c).arrAt w cfg0.N) 6).trans (final6 m c)
theorem V0_v2_2 : Pipeline.withArrays spec0 c (V0 m c) (fun w => (dats m 0 c).arrAt w cfg0.N) (Proc.devRef .tc main_v2_2) = acc7 (tF m c) (tG m c) 8 :=
  (Pipeline.withArrays_arr spec0 out_inj c (V0 m c) (fun w => (dats m 0 c).arrAt w cfg0.N) 7).trans (final7 m c)

/-- The first two results, of the four arguments as real numbers and labels. -/
def res1 (f g t : Fin 2048 → Fin 64 → ℝ) (L : Fin 2048 → BitVec 32) : ℝ :=
  1 / 2 * (rcT (sn f f) (mW t L) (mO t L) + rcT (sn g g) (mW t L) (mO t L)) * (1 / 4192256)
def res2 (f g : Fin 2048 → Fin 64 → ℝ) : ℝ := klT f f g g / 2048

theorem ofBits_pairs : Ideal.ofBits .f32 0x4A7FE000#32 = ((4192256 : ℝ) : EReal) := by
  simp [Ideal.ofBits, Ideal.ieee, -EReal.coe_mul]; norm_num

variable {m c}
variable {f g t : Fin 2048 → Fin 64 → ℝ} {L : Fin 2048 → BitVec 32}

theorem kernel_v8 (hf : ∀ i k, m ((c.tc : Thread nD τ).loc main_arg0) (ix2 i k) = (f i k : EReal)) (hg : ∀ i k, m ((c.tc : Thread nD τ).loc main_arg1) (ix2 i k) = (g i k : EReal))
    (ht : Rows (fun i k => m ((c.tc : Thread nD τ).loc main_arg2) (ix2 i k)) t) (hL : ∀ i, m ((c.tc : Thread nD τ).loc main_arg3) (ix1 i) = L i) :
    Pipeline.afterTail₀ cfgs (dats m) 0 (V0 m) [hostOps1] c main_v8 = fun _ => ((res1 f g t L : ℝ) : EReal) := by
  have h5 : acc5 (F := Ideal) (tT m c) (tC m c) (tR m c) (tF m c) 8 (ix2 0 0) = _ :=
    acc5_eq (fun i k => by simp only [tT_ix]; exact ht i k) (fun i => by rw [tC_ix, hL]) (fun j => by rw [tR_ix, hL]) (fun i k => by rw [tF_ix, hf])
  have h6 : acc6 (F := Ideal) (tT m c) (tC m c) (tR m c) (tG m c) 8 (ix2 0 0) = _ :=
    acc6_eq (fun i k => by simp only [tT_ix]; exact ht i k) (fun i => by rw [tC_ix, hL]) (fun j => by rw [tR_ix, hL]) (fun i k => by rw [tG_ix, hg])
  refine (tail_v8 (Pipeline.withArrays spec0 c (V0 m c) (fun w => (dats m 0 c).arrAt w cfg0.N))).trans (funext fun i => ?_)
  rw [V0_v2_0, V0_v2_1]
  generalize acc5 (F := Ideal) (tT m c) (tC m c) (tR m c) (tF m c) 8 = a at h5
  generalize acc6 (F := Ideal) (tT m c) (tC m c) (tR m c) (tG m c) 8 = b at h6
  have hd := coe_div 1 (b := 4192256) (by norm_num)
  pointwise []
  simp only [h5, h6, ofBits_half, ofBits_pairs, ← EReal.coe_one, hd, ← EReal.coe_add, ← EReal.coe_mul, res1]
theorem kernel_v10 (hf : ∀ i k, m ((c.tc : Thread nD τ).loc main_arg0) (ix2 i k) = (f i k : EReal)) (hg : ∀ i k, m ((c.tc : Thread nD τ).loc main_arg1) (ix2 i k) = (g i k : EReal)) :
    Pipeline.afterTail₀ cfgs (dats m) 0 (V0 m) [hostOps1] c main_v10 = fun _ => ((res2 f g : ℝ) : EReal) := by
  have h7 : acc7 (F := Ideal) (tF m c) (tG m c) 8 (ix2 0 0) = _ := acc7_eq (fun i k => by rw [tF_ix, hf]) (fun i k => by rw [tG_ix, hg])
  refine (tail_v10 (Pipeline.withArrays spec0 c (V0 m c) (fun w => (dats m 0 c).arrAt w cfg0.N))).trans (funext fun i => ?_)
  rw [V0_v2_2]
  generalize acc7 (F := Ideal) (tF m c) (tG m c) 8 = a at h7
  have hd := fun a => coe_div a (b := 2048) (by norm_num)
  pointwise []
  simp only [h7, ofBits_count, hd, res2]
theorem kernel_v11 (hf : ∀ i k, m ((c.tc : Thread nD τ).loc main_arg0) (ix2 i k) = (f i k : EReal)) (hg : ∀ i k, m ((c.tc : Thread nD τ).loc main_arg1) (ix2 i k) = (g i k : EReal))
    (ht : Rows (fun i k => m ((c.tc : Thread nD τ).loc main_arg2) (ix2 i k)) t) (hL : ∀ i, m ((c.tc : Thread nD τ).loc main_arg3) (ix1 i) = L i) :
    Pipeline.afterTail₀ cfgs (dats m) 0 (V0 m) [hostOps1] c main_v11 = fun _ => ((res1 f g t L + res2 f g : ℝ) : EReal) := by
  refine (tail_v11 (Pipeline.withArrays spec0 c (V0 m c) (fun w => (dats m 0 c).arrAt w cfg0.N))).trans (funext fun i => ?_)
  have h8 := congrFun (kernel_v8 hf hg ht hL) i
  have h10 := congrFun (kernel_v10 (m := m) (c := c) hf hg) i
  unfold Pipeline.afterTail₀ at h8 h10
  exact (congrArg₂ (fun x y : EReal => x + y) h8 h10).trans (EReal.coe_add _ _).symm
end

end Cert.Val

end
-- ==== Proof.V.RRes.lean ====
/-
  Hand-written, untrusted. The reference's weights, its two contrastive losses and its three results, as real numbers.
-/
module

public import proofs.«01_k».proof.Proof.V.RPay
public import proofs.«01_k».proof.Proof.V.RGat
public import proofs.«01_k».proof.Proof.V.KRes

@[expose] public section

set_option maxRecDepth 16384

noncomputable section

namespace Cert.Val

open Idealize.ShloMosaic Cert.ReferenceIdeal Cert.ReferenceIdeal.Gen Cert.ReferenceIdeal.Value

def rWt (l : IVec S2048 32) (b : FVec Ideal S2048x2048 .f32) : FVec Ideal S2048x2048 .f32 :=
  select (cmpi .eq (broadcastInDim S2048x2048 ![0, 1] bcast_S2048x1_S2048x2048_0_1 (broadcastInDim S2048x1 ![0] bcast_S2048_S2048x1_0 l)) (broadcastInDim S2048x2048 ![0, 1] bcast_S1x2048_S2048x2048_0_1 (broadcastInDim S1x2048 ![1] bcast_S2048_S1x2048_1 l))) (broadcastInDim S2048x2048 ![] bcast_S_S2048x2048 (constant S_ .f32 0x3F800000#32)) b
def rV (s : FVec Ideal S2048x2048 .f32) : FVec Ideal S2048x2048 .f32 :=
  uitofp .f32 (cmpf .oeq (Host.divf (addf s (transpose S2048x2048 [1, 0] s transposes_S2048x2048_S2048x2048_1_0)) (broadcastInDim S2048x2048 ![] bcast_S_S2048x2048 (constant S_ .f32 0x40000000#32))) (broadcastInDim S2048x2048 ![] bcast_S_S2048x2048 (constant S_ .f32 0x3F800000#32)))
def rCnt (v : FVec Ideal S2048x2048 .f32) : FVec Ideal S2048 .f32 :=
  Host.reduceAdd v (constant S_ .f32 0x00000000#32) reducesTo_S2048x2048_S2048_d1 h_S_
def rShare (v : FVec Ideal S2048x2048 .f32) : FVec Ideal S2048x2048 .f32 :=
  Host.dotGeneral dot_S2048x2048_S2048x2048_S2048x2048_1_0_0_1_n_n none v (transpose S2048x2048 [1, 0] v transposes_S2048x2048_S2048x2048_1_0)
def rU (v p : FVec Ideal S2048x2048 .f32) (n : FVec Ideal S2048 .f32) : FVec Ideal S2048x2048 .f32 :=
  select (broadcastInDim S2048x2048 ![0, 1] bcast_S2048x1_S2048x2048_0_1 (cmpf .ogt (broadcastInDim S2048x1 ![0] bcast_S2048_S2048x1_0 n) (broadcastInDim S2048x1 ![] bcast_S_S2048x1 (constant S_ .f32 0x00000000#32)))) (Host.divf (mulf v p) (broadcastInDim S2048x2048 ![0, 1] bcast_S2048x1_S2048x2048_0_1 (broadcastInDim S2048x1 ![0] bcast_S2048_S2048x1_0 (maximumf n (broadcastInDim S2048 ![] bcast_S_S2048 (constant S_ .f32 0x3F800000#32)))))) (broadcastInDim S2048x2048 ![] bcast_S_S2048x2048 (constant S_ .f32 0x00000000#32))
def rK5 (k : IVec S2048x10 32) : IVec S2048x5 32 := extractStridedSlice S2048x5 ![0, 0] k slices_S2048x10_S2048x5_0_0
def rIdx5 (k : IVec S2048x5 32) : IVec S2048x5x1 32 :=
  broadcastInDim S2048x5x1 ![0, 1] bcast_S2048x5_S2048x5x1_0_1 (select (cmpi .slt k (broadcastInDim S2048x5 ![] bcast_S_S2048x5 (constantI S_ 32 0#32))) (addi k (broadcastInDim S2048x5 ![] bcast_S_S2048x5 (constantI S_ 32 2048#32))) k)
def rTake (u : FVec Ideal S2048x2048 .f32) (k : IVec S2048x5x1 32) : FVec Ideal S2048x5x2048 .f32 :=
  Host.gather gather_S2048x2048_S2048x5x1_S2048x5x2048_2_0_n_n_0_2_12048 u k
def rMean (x : FVec Ideal S2048x5x2048 .f32) : FVec Ideal S2048x2048 .f32 :=
  Host.divf (Host.reduceAdd x (constant S_ .f32 0x00000000#32) reducesTo_S2048x5x2048_S2048x2048_d1 h_S_) (broadcastInDim S2048x2048 ![] bcast_S_S2048x2048 (constant S_ .f32 0x40A00000#32))
def rW (b m : FVec Ideal S2048x2048 .f32) : FVec Ideal S2048x2048 .f32 :=
  Host.divf (addf b (Host.divf (addf m (transpose S2048x2048 [1, 0] m transposes_S2048x2048_S2048x2048_1_0)) (broadcastInDim S2048x2048 ![] bcast_S_S2048x2048 (constant S_ .f32 0x40000000#32)))) (broadcastInDim S2048x2048 ![] bcast_S_S2048x2048 (constant S_ .f32 0x40000000#32))
def rEye : FVec Ideal S2048x2048 .f32 :=
  uitofp .f32 (cmpi .eq (addi (iotaInDim S2048x2048 32 0) (broadcastInDim S2048x2048 ![] bcast_S_S2048x2048 (constantI S_ 32 0#32))) (iotaInDim S2048x2048 32 1))
def rPos (s : FVec Ideal S2048x2048 .f32) : FVec Ideal S2048x2048 .f32 := maximumf s (broadcastInDim S2048x2048 ![] bcast_S_S2048x2048 (constant S_ .f32 0x00000000#32))
def rNeg (s : FVec Ideal S2048x2048 .f32) : FVec Ideal S2048x2048 .f32 := maximumf (subf (broadcastInDim S2048x2048 ![] bcast_S_S2048x2048 (constant S_ .f32 0x3F800000#32)) s) (broadcastInDim S2048x2048 ![] bcast_S_S2048x2048 (constant S_ .f32 0x00000000#32))
def rPull (s w e : FVec Ideal S2048x2048 .f32) : FVec Ideal S_ .f32 :=
  Host.reduceAdd (mulf (mulf s s) (mulf w (subf (broadcastInDim S2048x2048 ![] bcast_S_S2048x2048 (constant S_ .f32 0x3F800000#32)) e))) (constant S_ .f32 0x00000000#32) reducesTo_S2048x2048_S_d0_1 h_S_
def rPush (s w e : FVec Ideal S2048x2048 .f32) : FVec Ideal S_ .f32 :=
  Host.reduceAdd (mulf (mulf s s) (mulf (subf (broadcastInDim S2048x2048 ![] bcast_S_S2048x2048 (constant S_ .f32 0x3F800000#32)) w) (subf (broadcastInDim S2048x2048 ![] bcast_S_S2048x2048 (constant S_ .f32 0x3F800000#32)) e))) (constant S_ .f32 0x00000000#32) reducesTo_S2048x2048_S_d0_1 h_S_
def rRC (a b : FVec Ideal S_ .f32) : FVec Ideal S_ .f32 := Host.divf (addf a b) (constant S_ .f32 0x4A7FE000#32)
def rHalf (a b : FVec Ideal S_ .f32) : FVec Ideal S_ .f32 := Host.divf (addf a b) (constant S_ .f32 0x40000000#32)

theorem rWt_val {l : IVec S2048 32} {b : FVec Ideal S2048x2048 .f32} {L : Fin 2048 → BitVec 32} {B : Fin 2048 → Fin 2048 → ℝ} (hl : ∀ i, l (ix1 i) = L i)
    (hb : ∀ i j, b (ix2 i j) = (B i j : EReal)) (i j : Fin 2048) : rWt l b (ix2 i j) = (((if L i = L j then 1 else B i j : ℝ)) : EReal) := by
  pointwise [rWt]
  simp only [hl, hb, ofBits_one]
  by_cases h : L i = L j
  · simp [h, Scalar.select, IntOp.cmpi]
  · rw [if_neg h]
    simp [h, Scalar.select, IntOp.cmpi, beq_eq_false_iff_ne.mpr h]

theorem uitofp_ofBool (b : Bool) : FloatOps.uitofp (F := Ideal) .f32 (BitVec.ofBool b) = ((if b then (1 : ℝ) else 0 : ℝ) : EReal) := by
  show (((BitVec.ofBool b).toNat : ℝ) : EReal) = _
  cases b <;> simp

theorem rV_val {s : FVec Ideal S2048x2048 .f32} {A : Fin 2048 → Fin 2048 → ℝ} (hs : ∀ i j, s (ix2 i j) = (A i j : EReal)) (hA : ∀ i j, A i j = 0 ∨ A i j = 1) (i j : Fin 2048) :
    rV s (ix2 i j) = ((A i j * A j i : ℝ) : EReal) := by
  have h2 := fun a => coe_div a (b := 2) (by norm_num)
  pointwise [rV]
  simp only [hs, ofBits_one, ofBits_two, ← EReal.coe_add, h2]
  rcases hA i j with h | h <;> rcases hA j i with h' | h' <;> simp only [h, h', uitofp_ofBool, ← EReal.coe_one, EReal.coe_eq_coe_iff] <;> norm_num

theorem rCnt_val {v : FVec Ideal S2048x2048 .f32} {V : Fin 2048 → Fin 2048 → ℝ} (hv : ∀ i j, v (ix2 i j) = (V i j : EReal)) (i : Fin 2048) :
    rCnt v (ix1 i) = ((∑ j, V i j : ℝ) : EReal) := by
  pointwise [rCnt]
  simp only [hv, coe_sum, ← EReal.coe_zero, ← EReal.coe_add, zero_add]

theorem rShare_val {v : FVec Ideal S2048x2048 .f32} {V : Fin 2048 → Fin 2048 → ℝ} (hv : ∀ i j, v (ix2 i j) = (V i j : EReal)) (i j : Fin 2048) :
    rShare v (ix2 i j) = ((∑ k, V i k * V j k : ℝ) : EReal) := by
  pointwise [rShare]
  simp only [hv, ← EReal.coe_mul, coe_sum, ← EReal.coe_zero, ← EReal.coe_add, zero_add]

theorem rU_val {v p : FVec Ideal S2048x2048 .f32} {n : FVec Ideal S2048 .f32} {V P : Fin 2048 → Fin 2048 → ℝ} {N : Fin 2048 → ℝ} (hv : ∀ i j, v (ix2 i j) = (V i j : EReal))
    (hp : ∀ i j, p (ix2 i j) = (P i j : EReal)) (hn : ∀ i, n (ix1 i) = (N i : EReal)) (h0 : ∀ i j, ¬ 0 < N i → V i j = 0) (i j : Fin 2048) :
    rU v p n (ix2 i j) = ((V i j * P i j / max (N i) 1 : ℝ) : EReal) := by
  have hm : max (N i) 1 ≠ 0 := (lt_of_lt_of_le one_pos (le_max_right _ _)).ne'
  have h1 := coe_div (V i j * P i j) hm
  pointwise [rU]
  simp only [hv, hp, hn, ofBits_one, ← EReal.coe_one, coe_max, ← EReal.coe_mul, h1]
  by_cases h : 0 < N i
  · simp [h, Scalar.select, Ideal.cmp]
  · simp [h, h0 i j h, Scalar.select, Ideal.cmp]

theorem rIdx5_val {k : IVec S2048x10 32} {P : Fin 2048 → Fin 10 → Fin 2048} (hk : ∀ r q, k (ix2 r q) = BitVec.ofNat 32 (P r q).val) (r : Fin 2048) (q : Fin 5) :
    rIdx5 (rK5 k) (ix3 r q 0) = BitVec.ofNat 32 (P r (q.castLE (by decide))).val := by
  have h : rK5 k (ix2 r q) = BitVec.ofNat 32 (P r (q.castLE (by decide))).val := by
    refine Eq.trans ?_ (hk r (q.castLE (by decide)))
    refine congrArg k (funext fun a => Fin.ext ?_)
    match a with
    | ⟨0, _⟩ => show 0 + r.val = r.val; omega
    | ⟨1, _⟩ => show 0 + q.val = q.val; omega
  generalize rK5 k = v at h
  pointwise [rIdx5]
  rw [h]
  exact wrap_word _

theorem rMean_val {x : FVec Ideal S2048x5x2048 .f32} {X : Fin 2048 → Fin 5 → Fin 2048 → ℝ} (hx : ∀ r q c, x (ix3 r q c) = (X r q c : EReal)) (r c : Fin 2048) :
    rMean x (ix2 r c) = (((∑ q, X r q c) * (1 / 5) : ℝ) : EReal) := by
  have h5 := fun a => coe_div a (b := 5) (by norm_num)
  pointwise [rMean]
  simp only [hx, coe_sum, ← EReal.coe_zero, ← EReal.coe_add, zero_add, ofBits_five, h5, mul_one_div]

theorem rW_val {b m : FVec Ideal S2048x2048 .f32} {B M : Fin 2048 → Fin 2048 → ℝ} (hb : ∀ i j, b (ix2 i j) = (B i j : EReal)) (hm : ∀ i j, m (ix2 i j) = (M i j : EReal)) (i j : Fin 2048) :
    rW b m (ix2 i j) = ((1 / 2 * (B i j + 1 / 2 * (M i j + M j i)) : ℝ) : EReal) := by
  have h2 := fun a => coe_div a (b := 2) (by norm_num)
  pointwise [rW]
  simp only [hb, hm, ← EReal.coe_add, ofBits_two, h2]
  exact congrArg _ (by ring)

theorem rEye_val (i j : Fin 2048) : rEye (ix2 i j) = ((1 - offd i j : ℝ) : EReal) := by
  have hi := i.isLt
  have hj := j.isLt
  have e : IntOp.cmpi .eq (IntOp.addi (BitVec.ofNat 32 i.val) 0#32) (BitVec.ofNat 32 j.val) = BitVec.ofBool (decide (i = j)) := by
    refine congrArg BitVec.ofBool ?_
    rw [Bool.eq_iff_iff, decide_eq_true_eq, beq_iff_eq]
    show BitVec.ofNat 32 i.val + 0#32 = BitVec.ofNat 32 j.val ↔ _
    rw [BitVec.add_zero, ← BitVec.toNat_inj, BitVec.toNat_ofNat, BitVec.toNat_ofNat, Fin.ext_iff]
    omega
  pointwise [rEye]
  rw [e, uitofp_ofBool]
  refine congrArg _ ?_
  unfold offd
  by_cases h : i = j <;> simp [h]

theorem rPos_val {s : FVec Ideal S2048x2048 .f32} {S : Fin 2048 → Fin 2048 → ℝ} (hs : ∀ i j, s (ix2 i j) = (S i j : EReal)) (i j : Fin 2048) : rPos s (ix2 i j) = ((max (S i j) 0 : ℝ) : EReal) := by
  pointwise [rPos]
  simp only [hs, ← EReal.coe_zero, coe_max]
theorem rNeg_val {s : FVec Ideal S2048x2048 .f32} {S : Fin 2048 → Fin 2048 → ℝ} (hs : ∀ i j, s (ix2 i j) = (S i j : EReal)) (i j : Fin 2048) : rNeg s (ix2 i j) = ((max (1 - S i j) 0 : ℝ) : EReal) := by
  pointwise [rNeg]
  simp only [hs, ofBits_one, ← EReal.coe_zero, ← EReal.coe_one, ← EReal.coe_sub, coe_max]

section
variable {s w e : FVec Ideal S2048x2048 .f32} {S W E : Fin 2048 → Fin 2048 → ℝ} (hs : ∀ i j, s (ix2 i j) = (S i j : EReal)) (hw : ∀ i j, w (ix2 i j) = (W i j : EReal)) (he : ∀ i j, e (ix2 i j) = (E i j : EReal))
include hs hw he
theorem rPull_val (z : S_.Idx) : rPull s w e z = ((∑ i, ∑ j, S i j * S i j * (W i j * (1 - E i j)) : ℝ) : EReal) := by
  pointwise [rPull]
  simp only [hs, hw, he, ofBits_one, ← EReal.coe_one, ← EReal.coe_sub, ← EReal.coe_mul, coe_sum, ← EReal.coe_zero, ← EReal.coe_add, zero_add]
theorem rPush_val (z : S_.Idx) : rPush s w e z = ((∑ i, ∑ j, S i j * S i j * ((1 - W i j) * (1 - E i j)) : ℝ) : EReal) := by
  pointwise [rPush]
  simp only [hs, hw, he, ofBits_one, ← EReal.coe_one, ← EReal.coe_sub, ← EReal.coe_mul, coe_sum, ← EReal.coe_zero, ← EReal.coe_add, zero_add]
end

theorem rRC_val {a b : FVec Ideal S_ .f32} {A B : ℝ} (ha : ∀ z, a z = (A : EReal)) (hb : ∀ z, b z = (B : EReal)) (z : S_.Idx) : rRC a b z = (((A + B) / 4192256 : ℝ) : EReal) := by
  have h := fun a => coe_div a (b := 4192256) (by norm_num)
  pointwise [rRC]
  simp only [ha, hb, ← EReal.coe_add, ofBits_pairs, h]
theorem rHalf_val {a b : FVec Ideal S_ .f32} {A B : ℝ} (ha : ∀ z, a z = (A : EReal)) (hb : ∀ z, b z = (B : EReal)) (z : S_.Idx) : rHalf a b z = (((A + B) / 2 : ℝ) : EReal) := by
  have h := fun a => coe_div a (b := 2) (by norm_num)
  pointwise [rHalf]
  simp only [ha, hb, ← EReal.coe_add, ofBits_two, h]

/-! ## The weights -/

/-- The places of the ten greatest weights of each row; the mutual selection; the reference's weight. -/
def rK (l : IVec S2048 32) (b : FVec Ideal S2048x2048 .f32) : IVec S2048x10 32 := (Host.topK S2048x10 1 (FloatOps.cmpfTotal .gt) (rWt l b) sliceFits_S2048x2048_S2048x10).2
def rVm (k : IVec S2048x10 32) : FVec Ideal S2048x2048 .f32 := rV (rSel k)
def rM (k : IVec S2048x10 32) (v : FVec Ideal S2048x2048 .f32) : FVec Ideal S2048x2048 .f32 := rMean (rTake (rU v (rShare v) (rCnt v)) (rIdx5 (rK5 k)))
def rWm (l : IVec S2048 32) (b : FVec Ideal S2048x2048 .f32) : FVec Ideal S2048x2048 .f32 := rW b (rM (rK l b) (rVm (rK l b)))
def rLoss (s w : FVec Ideal S2048x2048 .f32) : FVec Ideal S_ .f32 := rRC (rPull (rPos s) w rEye) (rPush (rNeg s) w rEye)
def rB0 (t : FVec Ideal S2048x64 .f32) : FVec Ideal S2048x2048 .f32 := rB (rD (rN t))

section
variable {t : FVec Ideal S2048x64 .f32} {l : IVec S2048 32} {T : Fin 2048 → Fin 64 → ℝ} {L : Fin 2048 → BitVec 32}
variable (ht : Rows (fun i k => t (ix2 i k)) T) (hl : ∀ i, l (ix1 i) = L i)
include ht
theorem rB0_val (i j : Fin 2048) : rB0 t (ix2 i j) = ((Real.exp (-dd (nrm T) (nrm T) i j) : ℝ) : EReal) := by
  refine (rB_val (rD_val (rN_val ht)) i j).trans ?_
  unfold dist
  rw [Real.mul_self_sqrt (dd_pos _ _ i j).le]
include hl
theorem rK_val (r : Fin 2048) (q : Fin 10) : rK l (rB0 t) (ix2 r q) = BitVec.ofNat 32 (pick (wt T T L L r) (q.castLE (by decide))).val :=
  topk_val _ (wt T T L L) (fun i j => (rWt_val hl (rB0_val ht) i j).trans (by unfold wt; rfl)) r q
theorem rSel_mA (r c : Fin 2048) : rSel (rK l (rB0 t)) (ix2 r c) = ((mA T L r c : ℝ) : EReal) := by
  rw [rSel_val (P := fun r q => pick (wt T T L L r) (q.castLE (by decide))) (rK_val ht hl) r c]
  unfold mA
  have h := exists_pick_iff (wt T T L L r) c 10 (by decide)
  by_cases h' : rank (wt T T L L r) c < 10
  · rw [if_pos h', if_pos (h.2 h')]
  · rw [if_neg h', if_neg fun e => h' (h.1 e)]
theorem rVm_val (r c : Fin 2048) : rVm (rK l (rB0 t)) (ix2 r c) = ((mV T L r c : ℝ) : EReal) :=
  rV_val (rSel_mA ht hl) (fun i j => by unfold mA; split; exacts [Or.inr rfl, Or.inl rfl]) r c
omit ht hl in
theorem mV_nonneg (r c : Fin 2048) : 0 ≤ mV T L r c := by
  have h : ∀ r c, 0 ≤ mA T L r c := fun r c => by unfold mA; split <;> norm_num
  exact mul_nonneg (h r c) (h c r)
omit ht hl in
theorem mV_eq_zero (r c : Fin 2048) (h : ¬ 0 < ∑ k, mV T L r k) : mV T L r c = 0 :=
  (Finset.sum_eq_zero_iff_of_nonneg fun k _ => mV_nonneg r k).1 (le_antisymm (not_lt.1 h) (Finset.sum_nonneg fun k _ => mV_nonneg r k)) c (Finset.mem_univ _)
theorem rU_mU (r c : Fin 2048) : rU (rVm (rK l (rB0 t))) (rShare (rVm (rK l (rB0 t)))) (rCnt (rVm (rK l (rB0 t)))) (ix2 r c) = ((mU T L r c : ℝ) : EReal) :=
  rU_val (rVm_val ht hl) (rShare_val (rVm_val ht hl)) (rCnt_val (rVm_val ht hl)) (fun i j h => mV_eq_zero i j h) r c
theorem rM_val (r c : Fin 2048) : rM (rK l (rB0 t)) (rVm (rK l (rB0 t))) (ix2 r c) = ((mM T L r c : ℝ) : EReal) := by
  refine (rMean_val (X := fun r q c => mU T L (pick (wt T T L L r) (q.castLE (by decide))) c) (fun r q c => ?_) r c).trans ?_
  · refine (gather5_val _ _ r q c _ (rIdx5_val (P := fun r q => pick (wt T T L L r) (q.castLE (by decide))) (rK_val ht hl) r q)).trans ?_
    exact rU_mU ht hl _ c
  · unfold mM
    exact congrArg (fun a : ℝ => ((a * (1 / 5) : ℝ) : EReal)) (sum_pick (wt T T L L r) fun k => mU T L k c)
theorem rWm_val (r c : Fin 2048) : rWm l (rB0 t) (ix2 r c) = ((1 / 2 * (Real.exp (-dd (nrm T) (nrm T) r c) + 1 / 2 * (mM T L r c + mM T L c r)) : ℝ) : EReal) :=
  rW_val (rB0_val ht) (rM_val ht hl) r c

theorem rLoss_val {x : FVec Ideal S2048x64 .f32} {X : Fin 2048 → Fin 64 → ℝ} (hx : ∀ i k, x (ix2 i k) = (X i k : EReal)) (z : S_.Idx) :
    rLoss (rS (rD x)) (rWm l (rB0 t)) z = ((rcT (sn X X) (mW T L) (mO T L) / 4192256 : ℝ) : EReal) := by
  refine (rRC_val (fun z => rPull_val (rPos_val (sn_val hx)) (rWm_val ht hl) rEye_val z) (fun z => rPush_val (rNeg_val (sn_val hx)) (rWm_val ht hl) rEye_val z) z).trans ?_
  refine congrArg (fun a : ℝ => ((a / 4192256 : ℝ) : EReal)) ?_
  unfold rcT
  rw [← Finset.sum_add_distrib]
  refine Finset.sum_congr rfl fun i _ => ?_
  rw [← Finset.sum_add_distrib]
  refine Finset.sum_congr rfl fun j _ => ?_
  have hp : 0 ≤ sn X X i j := mul_nonneg (dist_pos X X i j).le (div_nonneg (by norm_num) (rs_pos X X i).le)
  rw [max_eq_left hp]
  unfold mO mW
  ring

theorem res1_val {x y : FVec Ideal S2048x64 .f32} {X Y : Fin 2048 → Fin 64 → ℝ} (hx : ∀ i k, x (ix2 i k) = (X i k : EReal)) (hy : ∀ i k, y (ix2 i k) = (Y i k : EReal)) (z : S_.Idx) :
    rHalf (rLoss (rS (rD x)) (rWm l (rB0 t))) (rLoss (rS (rD y)) (rWm l (rB0 t))) z = ((res1 X Y T L : ℝ) : EReal) := by
  refine (rHalf_val (rLoss_val ht hl hx) (rLoss_val ht hl hy) z).trans (congrArg _ ?_)
  unfold res1
  ring
end

/-- The reference's divergence term. -/
def rDiv (x y : FVec Ideal S2048x64 .f32) : FVec Ideal S_ .f32 := rKL (rP (Host.exp (rSub (rA y) (rMx (rA y))))) (rSub (rA x) (rMx (rA x)))
theorem res2_val {x y : FVec Ideal S2048x64 .f32} {X Y : Fin 2048 → Fin 64 → ℝ} (hx : ∀ i k, x (ix2 i k) = (X i k : EReal)) (hy : ∀ i k, y (ix2 i k) = (Y i k : EReal)) (z : S_.Idx) :
    rDiv x y z = ((res2 X Y : ℝ) : EReal) := kl_val hx hy z

/-! ## The reference's results -/

section
open Idealize.ShloMosaic.TcCoe Idealize.SL.Sem Idealize.ShloMosaic.StableHlo
variable (V0 : Valuation τ sig (Elt Ideal))
abbrev vF : FVec Ideal S2048x64 .f32 := V0 (Proc.devRef .tc main_arg0)
abbrev vG : FVec Ideal S2048x64 .f32 := V0 (Proc.devRef .tc main_arg1)
abbrev vT : FVec Ideal S2048x64 .f32 := V0 (Proc.devRef .tc main_arg2)
abbrev vL : IVec S2048 32 := V0 (Proc.devRef .tc main_arg3)

theorem v27_eq : res_main_v27 (F := Ideal) V0 = rS (rD (vF V0)) := rfl
theorem v47_eq : res_main_v47 (F := Ideal) V0 = rB0 (vT V0) := rfl
theorem v53_eq : res_main_v53 (F := Ideal) V0 = rWt (vL V0) (res_main_v47 V0) := rfl
theorem indices_eq : res_main_indices (F := Ideal) V0 = rK (vL V0) (res_main_v47 V0) := rfl
theorem v80_eq : res_main_v80 (F := Ideal) V0 = rVm (res_main_indices V0) := rfl
theorem v103_eq : res_main_v103 (F := Ideal) V0 = rM (res_main_indices V0) (res_main_v80 V0) := rfl
theorem v110_eq : res_main_v110 (F := Ideal) V0 = rW (res_main_v47 V0) (res_main_v103 V0) := rfl
theorem v110_val : res_main_v110 (F := Ideal) V0 = rWm (vL V0) (rB0 (vT V0)) := by
  rw [v110_eq, v103_eq, v80_eq, indices_eq, v47_eq]; rfl
theorem v166_eq : res_main_v166 (F := Ideal) V0 = rS (rD (vG V0)) := rfl
theorem v186_eq : res_main_v186 (F := Ideal) V0 = rB0 (vT V0) := rfl
theorem indices51_eq : res_main_indices_51 (F := Ideal) V0 = rK (vL V0) (res_main_v186 V0) := rfl
theorem v219_eq : res_main_v219 (F := Ideal) V0 = rVm (res_main_indices_51 V0) := rfl
theorem v242_eq : res_main_v242 (F := Ideal) V0 = rM (res_main_indices_51 V0) (res_main_v219 V0) := rfl
theorem v249_eq : res_main_v249 (F := Ideal) V0 = rW (res_main_v186 V0) (res_main_v242 V0) := rfl
theorem v249_val : res_main_v249 (F := Ideal) V0 = rWm (vL V0) (rB0 (vT V0)) := by
  rw [v249_eq, v242_eq, v219_eq, indices51_eq, v186_eq]; rfl
theorem v126_eq : res_main_v126 (F := Ideal) V0 = rPos (res_main_v27 V0) := rfl
theorem v132_eq : res_main_v132 (F := Ideal) V0 = rNeg (res_main_v27 V0) := rfl
theorem v265_eq : res_main_v265 (F := Ideal) V0 = rPos (res_main_v166 V0) := rfl
theorem v271_eq : res_main_v271 (F := Ideal) V0 = rNeg (res_main_v166 V0) := rfl
theorem v116_eq : res_main_v116 (F := Ideal) V0 = rEye := rfl
theorem v255_eq : res_main_v255 (F := Ideal) V0 = rEye := rfl
theorem call6_v5_eq : res_main_call6_v5 (F := Ideal) V0 = rSub (rA (vF V0)) (rMx (rA (vF V0))) := rfl
theorem v339_eq : res_main_v339 (F := Ideal) V0 = rP (Host.exp (rSub (rA (vG V0)) (rMx (rA (vG V0))))) := rfl

/-- The terms that the reference's first two results hold. -/
def tm1 : FVec Ideal S_ .f32 :=
  Host.divf (addf (Host.divf (addf (Host.reduceAdd (mulf (mulf (res_main_v126 V0) (res_main_v126 V0)) (mulf (res_main_v110 V0) (subf (broadcastInDim S2048x2048 ![] bcast_S_S2048x2048 (constant S_ .f32 0x3F800000#32)) (res_main_v116 V0)))) (constant S_ .f32 0x00000000#32) reducesTo_S2048x2048_S_d0_1 h_S_) (Host.reduceAdd (mulf (mulf (res_main_v132 V0) (res_main_v132 V0)) (mulf (subf (broadcastInDim S2048x2048 ![] bcast_S_S2048x2048 (constant S_ .f32 0x3F800000#32)) (res_main_v110 V0)) (subf (broadcastInDim S2048x2048 ![] bcast_S_S2048x2048 (constant S_ .f32 0x3F800000#32)) (res_main_v116 V0)))) (constant S_ .f32 0x00000000#32) reducesTo_S2048x2048_S_d0_1 h_S_)) (constant S_ .f32 0x4A7FE000#32)) (Host.divf (addf (Host.reduceAdd (mulf (mulf (res_main_v265 V0) (res_main_v265 V0)) (mulf (res_main_v249 V0) (subf (broadcastInDim S2048x2048 ![] bcast_S_S2048x2048 (constant S_ .f32 0x3F800000#32)) (res_main_v255 V0)))) (constant S_ .f32 0x00000000#32) reducesTo_S2048x2048_S_d0_1 h_S_) (Host.reduceAdd (mulf (mulf (res_main_v271 V0) (res_main_v271 V0)) (mulf (subf (broadcastInDim S2048x2048 ![] bcast_S_S2048x2048 (constant S_ .f32 0x3F800000#32)) (res_main_v249 V0)) (subf (broadcastInDim S2048x2048 ![] bcast_S_S2048x2048 (constant S_ .f32 0x3F800000#32)) (res_main_v255 V0)))) (constant S_ .f32 0x00000000#32) reducesTo_S2048x2048_S_d0_1 h_S_)) (constant S_ .f32 0x4A7FE000#32))) (constant S_ .f32 0x40000000#32)
def tm2 : FVec Ideal S_ .f32 :=
  Host.divf (Host.reduceAdd (mulf (res_main_v339 V0) (subf (Host.log (res_main_v339 V0)) (subf (res_main_call6_v5 V0) (broadcastInDim S2048x2048 ![0, 1] bcast_S2048x1_S2048x2048_0_1 (Host.log (broadcastInDim S2048x1 ![0] bcast_S2048_S2048x1_0 (Host.reduceAdd (Host.exp (res_main_call6_v5 V0)) (constant S_ .f32 0x00000000#32) reducesTo_S2048x2048_S2048_d1 h_S_))))))) (constant S_ .f32 0x00000000#32) reducesTo_S2048x2048_S_d0_1 h_S_) (constant S_ .f32 0x45000000#32)

theorem tm1_eq : tm1 V0 = rHalf (rLoss (rS (rD (vF V0))) (rWm (vL V0) (rB0 (vT V0)))) (rLoss (rS (rD (vG V0))) (rWm (vL V0) (rB0 (vT V0)))) := by
  unfold tm1
  rw [v126_eq, v132_eq, v265_eq, v271_eq, v116_eq, v255_eq, v110_val, v249_val, v27_eq, v166_eq]
  rfl
theorem tm2_eq : tm2 V0 = rDiv (vF V0) (vG V0) := by
  unfold tm2
  rw [call6_v5_eq, v339_eq]
  rfl
end

end Cert.Val

end
-- ==== Proof.Algebraic.lean ====
/-
  Hand-written, untrusted. Under the stated precondition the kernel and the reference end with equal results: each result of
  either is the same real number, a function of the four arguments.
-/
module

public import proofs.«01_k».proof.Defs
public import proofs.«01_k».proof.Proof.Frames
public import proofs.«01_k».proof.Proof.V.RRes

@[expose] public section

set_option maxRecDepth 16384

noncomputable section

namespace Cert.Proof

open Idealize.ShloMosaic Idealize.SL.Sem Cert.Val

theorem facts_finite : Cert.Pre_finite.Facts := ⟨by decide⟩

theorem frame_KI_finite : Cert.quiescent_KernelIdeal_pre_finite (hKernelIdeal := Cert.KernelIdeal.Gen.facts) (hPre_finite := facts_finite) := fun m g _ =>
  frame_KI m g trivial
theorem frame_RI_finite : Cert.quiescent_ReferenceIdeal_pre_finite (hReferenceIdeal := Cert.ReferenceIdeal.Gen.facts) (hPre_finite := facts_finite) := fun m g _ =>
  frame_RI m g trivial

/-! ## The precondition -/

theorem ofBits_top : Ideal.ofBits .f32 0x7F800000#32 = (⊤ : EReal) := by
  simp [Ideal.ofBits, Ideal.ieee, -EReal.coe_mul]

/-- An array whose elements are below infinity in absolute value holds real numbers. -/
theorem real_of_finite (x : FVec Ideal Cert.Pre_finite.S2048x64 .f32) (hb : Cert.Pre_finite.S_.BroadcastsInDim Cert.Pre_finite.S2048x64 ![])
    (h : cmpf .olt (Host.absf x) (broadcastInDim Cert.Pre_finite.S2048x64 ![] hb (constant Cert.Pre_finite.S_ .f32 0x7F800000#32)) = fun _ => 1#1) :
    ∃ f : Fin 2048 → Fin 64 → ℝ, ∀ i k, x (ix2 i k) = ((f i k : ℝ) : EReal) := by
  have e : ∀ i k, x (ix2 i k) ≠ ⊤ ∧ x (ix2 i k) ≠ ⊥ := fun i k => by
    have h' := congrFun h (ix2 i k)
    have h'' : Ideal.cmp .olt (max (x (ix2 i k)) (-x (ix2 i k))) ⊤ = 1#1 := by
      rw [← h', ← ofBits_top]
      rfl
    constructor <;> intro hx <;> rw [hx] at h'' <;> simp [Ideal.cmp] at h''
  exact ⟨fun i k => (x (ix2 i k)).toReal, fun i k => (EReal.coe_toReal (e i k).1 (e i k).2).symm⟩

/-! ## The results -/

section
variable {m : (ℓ : Loc Cert.ReferenceIdeal.nD Cert.ReferenceIdeal.τ Cert.ReferenceIdeal.sig) → Buf (Elt Ideal) ℓ} {c : Dev Cert.ReferenceIdeal.nD}
variable {f g t : Fin 2048 → Fin 64 → ℝ} {L : Fin 2048 → BitVec 32}
variable (hf : ∀ i k, vF (StableHlo.launchContents m c) (ix2 i k) = (f i k : EReal)) (hg : ∀ i k, vG (StableHlo.launchContents m c) (ix2 i k) = (g i k : EReal))
variable (ht : Rows (fun i k => vT (StableHlo.launchContents m c) (ix2 i k)) t) (hL : ∀ i, vL (StableHlo.launchContents m c) (ix1 i) = L i)
include hf hg
theorem ref_2 : tm2 (StableHlo.launchContents m c) = fun _ => ((res2 f g : ℝ) : EReal) := by
  rw [tm2_eq]
  exact funext fun z => res2_val hf hg z
include ht hL
theorem ref_1 : tm1 (StableHlo.launchContents m c) = fun _ => ((res1 f g t L : ℝ) : EReal) := by
  rw [tm1_eq]
  exact funext fun z => res1_val ht hL hf hg z
theorem ref_3 : addf (F := Ideal) (tm1 (StableHlo.launchContents m c)) (tm2 (StableHlo.launchContents m c)) = fun _ => ((res1 f g t L + res2 f g : ℝ) : EReal) := by
  rw [ref_1 hf hg ht hL, ref_2 hf hg]
  exact funext fun _ => (EReal.coe_add _ _).symm
end

theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hargs
  choose f hf using fun c => real_of_finite _ facts_finite.bcast_S_S2048x64 (hpre c).1
  choose u hu using fun c => real_of_finite _ facts_finite.bcast_S_S2048x64 (hpre c).2
  choose t ht using fun c : Dev Cert.KernelIdeal.nD => exists_rows fun (i : Fin 2048) (k : Fin 64) => (m ((c.tc : Thread Cert.KernelIdeal.nD Cert.KernelIdeal.τ).loc Cert.KernelIdeal.main_arg2) : FVec Ideal Cert.Pre_finite.S2048x64 .f32) (ix2 i k)
  let L : Dev Cert.KernelIdeal.nD → Fin 2048 → BitVec 32 := fun c i => (m ((c.tc : Thread Cert.KernelIdeal.nD Cert.KernelIdeal.τ).loc Cert.KernelIdeal.main_arg3) : IVec Cert.Pre_finite.S2048 32) (ix1 i)
  refine ⟨fun c _ => ((res1 (f c) (u c) (t c) (L c) : ℝ) : EReal), fun c _ => ((res2 (f c) (u c) : ℝ) : EReal), fun c _ => ((res1 (f c) (u c) (t c) (L c) + res2 (f c) (u c) : ℝ) : EReal), ?_, ?_⟩
  · refine (θ_run Cert.KernelIdeal.defs _ _).mono (fun r h c => ?_) (Cert.KernelIdeal.Hand.run_main (F := Ideal) m g)
    refine ⟨?_, ?_, ?_, Cert.KernelIdeal.Hand.args_kept h.1 c⟩
    · exact ((h.1 c).2 Cert.KernelIdeal.main_v8 (Pipeline.mem_restRefs_of Cert.KernelIdeal.main_v8 (by decide) (by decide))).trans (kernel_v8 (hf c) (hu c) (ht c) fun _ => rfl)
    · exact ((h.1 c).2 Cert.KernelIdeal.main_v10 (Pipeline.mem_restRefs_of Cert.KernelIdeal.main_v10 (by decide) (by decide))).trans (kernel_v10 (hf c) (hu c))
    · exact ((h.1 c).2 Cert.KernelIdeal.main_v11 (Pipeline.mem_restRefs_of Cert.KernelIdeal.main_v11 (by decide) (by decide))).trans (kernel_v11 (hf c) (hu c) (ht c) fun _ => rfl)
  · refine (θ_run Cert.ReferenceIdeal.defs _ _).mono (fun r h c => ?_) (Cert.ReferenceIdeal.Value.run (F := Ideal) m' g')
    obtain ⟨h1, h2, h3, hk⟩ := h c
    obtain ⟨a0, a1, a2, a3⟩ := hargs c
    have hf' : ∀ i k, vF (StableHlo.launchContents m' c) (ix2 i k) = (f c i k : EReal) := fun i k => (congrFun a0 (ix2 i k)).trans (hf c i k)
    have hu' : ∀ i k, vG (StableHlo.launchContents m' c) (ix2 i k) = (u c i k : EReal) := fun i k => (congrFun a1 (ix2 i k)).trans (hu c i k)
    have ht' : Rows (fun i k => vT (StableHlo.launchContents m' c) (ix2 i k)) (t c) := by
      have e : (fun (i : Fin 2048) (k : Fin 64) => vT (StableHlo.launchContents m' c) (ix2 i k)) = _ := funext fun i => funext fun k => congrFun a2 (ix2 i k)
      rw [e]
      exact ht c
    have hL' : ∀ i, vL (StableHlo.launchContents m' c) (ix1 i) = L c i := fun i => congrFun a3 (ix1 i)
    exact ⟨h1.trans (ref_1 hf' hu' ht' hL'), h2.trans (ref_2 hf' hu'), h3.trans (ref_3 hf' hu' ht' hL'), hk⟩

end Cert.Proof

end
-- ==== Proof.lean ====
module

public import proofs.«01_k».proof.Defs
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, facts_finite,
  frame_K, frame_KI, frame_KI_finite, frame_RI, frame_RI_finite, preserves, algebraic⟩

end Cert.Proof

end
